-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v54)) (v3 : (c : Dev Cert.KernelIdeal.nD) → Buf (Elt Ideal) ((c.tc : Thread Cert.KernelIdeal.nD Cert.KernelIdeal.τ).loc Cert.KernelIdeal.main_v74)) (v4 : (c : Dev Cert.KernelIdeal.nD) → Buf (Elt Ideal) ((c.tc : Thread Cert.KernelIdeal.nD Cert.KernelIdeal.τ).loc Cert.KernelIdeal.main_v91)) (v5 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_v74) = v3 c
          ∧ r.2.mem ((c.tc : Thread Cert.KernelIdeal.nD Cert.KernelIdeal.τ).loc Cert.KernelIdeal.main_v91) = v4 c
          ∧ r.2.mem ((c.tc : Thread Cert.KernelIdeal.nD Cert.KernelIdeal.τ).loc Cert.KernelIdeal.main_v108) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_v120) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x3 : Shape := ⟨3, ![4, 8192, 3]⟩
abbrev S4x8192x128 : Shape := ⟨3, ![4, 8192, 128]⟩
abbrev S3x4x8192 : Shape := ⟨3, ![3, 4, 8192]⟩
abbrev S3x4x64x128 : Shape := ⟨4, ![3, 4, 64, 128]⟩
abbrev S2048x4 : Shape := ⟨2, ![2048, 4]⟩
abbrev S1x4x64x128 : Shape := ⟨4, ![1, 4, 64, 128]⟩
abbrev S4x64x128 : Shape := ⟨3, ![4, 64, 128]⟩
abbrev S4x1x1 : Shape := ⟨3, ![4, 1, 1]⟩
abbrev S1x4 : Shape := ⟨2, ![1, 4]⟩
abbrev S4 : Shape := ⟨1, ![4]⟩
abbrev S4x2048 : Shape := ⟨2, ![4, 2048]⟩
abbrev S4x1 : Shape := ⟨2, ![4, 1]⟩
abbrev S_ : Shape := ⟨0, ![]⟩
abbrev S4x2048x1 : Shape := ⟨3, ![4, 2048, 1]⟩
abbrev S4x2048x2 : Shape := ⟨3, ![4, 2048, 2]⟩
abbrev S4x2048x3 : Shape := ⟨3, ![4, 2048, 3]⟩
abbrev S4x2048x128 : Shape := ⟨3, ![4, 2048, 128]⟩
abbrev S4x3x8192 : Shape := ⟨3, ![4, 3, 8192]⟩
abbrev S4x2048x8192 : Shape := ⟨3, ![4, 2048, 8192]⟩
abbrev S1x256x3 : Shape := ⟨3, ![1, 256, 3]⟩
abbrev S1x3x8192 : Shape := ⟨3, ![1, 3, 8192]⟩
abbrev S1x256x8192 : Shape := ⟨3, ![1, 256, 8192]⟩
abbrev S256x3 : Shape := ⟨2, ![256, 3]⟩
abbrev S3x8192 : Shape := ⟨2, ![3, 8192]⟩
abbrev S256x1 : Shape := ⟨2, ![256, 1]⟩
abbrev S1x8192 : Shape := ⟨2, ![1, 8192]⟩
abbrev S256x8192 : Shape := ⟨2, ![256, 8192]⟩
abbrev S4x2048x24 : Shape := ⟨3, ![4, 2048, 24]⟩
abbrev S4x2048x24x1 : Shape := ⟨4, ![4, 2048, 24, 1]⟩
abbrev S4x2048x24x2 : Shape := ⟨4, ![4, 2048, 24, 2]⟩
abbrev S4x2048x24x3 : Shape := ⟨4, ![4, 2048, 24, 3]⟩
abbrev S4x2048x24x128 : Shape := ⟨4, ![4, 2048, 24, 128]⟩

abbrev nBuf : Space → Nat
  | .hbm => 138
  | .vmem => 8
  | .smem => 0
  | _ => 0

abbrev hbmTy0_0 (i : Nat) : BufTy := match i % 128 with
  | 0 => ⟨S4x8192x3, .f32⟩
  | 1 => ⟨S4x8192x128, .f32⟩
  | 2 => ⟨S4x8192x3, .f32⟩
  | 3 => ⟨S3x4x8192, .f32⟩
  | 4 => ⟨S3x4x64x128, .f32⟩
  | 5 => ⟨S2048x4, .i32⟩
  | 6 => ⟨S4x2048, .i32⟩
  | 7 => ⟨S4, .i32⟩
  | 8 => ⟨S4x1, .i32⟩
  | 9 => ⟨S_, .i32⟩
  | 10 => ⟨S4x1, .i32⟩
  | 11 => ⟨S4x1, .i1⟩
  | 12 => ⟨S_, .i32⟩
  | 13 => ⟨S4x1, .i32⟩
  | 14 => ⟨S4x1, .i32⟩
  | 15 => ⟨S4x1, .i32⟩
  | 16 => ⟨S_, .i32⟩
  | 17 => ⟨S4x2048, .i32⟩
  | 18 => ⟨S4x2048, .i1⟩
  | 19 => ⟨S_, .i32⟩
  | 20 => ⟨S4x2048, .i32⟩
  | 21 => ⟨S4x2048, .i32⟩
  | 22 => ⟨S4x2048, .i32⟩
  | 23 => ⟨S4x2048, .i32⟩
  | 24 => ⟨S4x2048x1, .i32⟩
  | 25 => ⟨S4x2048x1, .i32⟩
  | 26 => ⟨S4x2048x2, .i32⟩
  | 27 => ⟨S4x2048x3, .f32⟩
  | 28 => ⟨S4, .i32⟩
  | 29 => ⟨S4x1, .i32⟩
  | 30 => ⟨S_, .i32⟩
  | 31 => ⟨S4x1, .i32⟩
  | 32 => ⟨S4x1, .i1⟩
  | 33 => ⟨S_, .i32⟩
  | 34 => ⟨S4x1, .i32⟩
  | 35 => ⟨S4x1, .i32⟩
  | 36 => ⟨S4x1, .i32⟩
  | 37 => ⟨S_, .i32⟩
  | 38 => ⟨S4x2048, .i32⟩
  | 39 => ⟨S4x2048, .i1⟩
  | 40 => ⟨S_, .i32⟩
  | 41 => ⟨S4x2048, .i32⟩
  | 42 => ⟨S4x2048, .i32⟩
  | 43 => ⟨S4x2048, .i32⟩
  | 44 => ⟨S4x2048, .i32⟩
  | 45 => ⟨S4x2048x1, .i32⟩
  | 46 => ⟨S4x2048x1, .i32⟩
  | 47 => ⟨S4x2048x2, .i32⟩
  | 48 => ⟨S4x2048x128, .f32⟩
  | 49 => ⟨S4, .i32⟩
  | 50 => ⟨S4x1, .i32⟩
  | 51 => ⟨S_, .i32⟩
  | 52 => ⟨S4x1, .i32⟩
  | 53 => ⟨S4x1, .i1⟩
  | 54 => ⟨S_, .i32⟩
  | 55 => ⟨S4x1, .i32⟩
  | 56 => ⟨S4x1, .i32⟩
  | 57 => ⟨S4x1, .i32⟩
  | 58 => ⟨S_, .i32⟩
  | 59 => ⟨S4x2048, .i32⟩
  | 60 => ⟨S4x2048, .i1⟩
  | 61 => ⟨S_, .i32⟩
  | 62 => ⟨S4x2048, .i32⟩
  | 63 => ⟨S4x2048, .i32⟩
  | 64 => ⟨S4x2048, .i32⟩
  | 65 => ⟨S4x2048, .i32⟩
  | 66 => ⟨S4x2048x1, .i32⟩
  | 67 => ⟨S4x2048x1, .i32⟩
  | 68 => ⟨S4x2048x2, .i32⟩
  | 69 => ⟨S4x2048x3, .f32⟩
  | 70 => ⟨S4x3x8192, .f32⟩
  | 71 => ⟨S4x2048x8192, .f32⟩
  | 72 => ⟨S4x2048x8192, .f32⟩
  | 73 => ⟨S4x2048x24, .f32⟩
  | 74 => ⟨S4x2048x24, .i32⟩
  | 75 => ⟨S4, .i32⟩
  | 76 => ⟨S4x1x1, .i32⟩
  | 77 => ⟨S_, .i32⟩
  | 78 => ⟨S4x1x1, .i32⟩
  | 79 => ⟨S4x1x1, .i1⟩
  | 80 => ⟨S_, .i32⟩
  | 81 => ⟨S4x1x1, .i32⟩
  | 82 => ⟨S4x1x1, .i32⟩
  | 83 => ⟨S4x1x1, .i32⟩
  | 84 => ⟨S_, .i32⟩
  | 85 => ⟨S4x2048x24, .i32⟩
  | 86 => ⟨S4x2048x24, .i1⟩
  | 87 => ⟨S_, .i32⟩
  | 88 => ⟨S4x2048x24, .i32⟩
  | 89 => ⟨S4x2048x24, .i32⟩
  | 90 => ⟨S4x2048x24, .i32⟩
  | 91 => ⟨S4x2048x24, .i32⟩
  | 92 => ⟨S4x2048x24x1, .i32⟩
  | 93 => ⟨S4x2048x24x1, .i32⟩
  | 94 => ⟨S4x2048x24x2, .i32⟩
  | 95 => ⟨S4x2048x24x3, .f32⟩
  | 96 => ⟨S4, .i32⟩
  | 97 => ⟨S4x1x1, .i32⟩
  | 98 => ⟨S_, .i32⟩
  | 99 => ⟨S4x1x1, .i32⟩
  | 100 => ⟨S4x1x1, .i1⟩
  | 101 => ⟨S_, .i32⟩
  | 102 => ⟨S4x1x1, .i32⟩
  | 103 => ⟨S4x1x1, .i32⟩
  | 104 => ⟨S4x1x1, .i32⟩
  | 105 => ⟨S_, .i32⟩
  | 106 => ⟨S4x2048x24, .i32⟩
  | 107 => ⟨S4x2048x24, .i1⟩
  | 108 => ⟨S_, .i32⟩
  | 109 => ⟨S4x2048x24, .i32⟩
  | 110 => ⟨S4x2048x24, .i32⟩
  | 111 => ⟨S4x2048x24, .i32⟩
  | 112 => ⟨S4x2048x24, .i32⟩
  | 113 => ⟨S4x2048x24x1, .i32⟩
  | 114 => ⟨S4x2048x24x1, .i32⟩
  | 115 => ⟨S4x2048x24x2, .i32⟩
  | 116 => ⟨S4x2048x24x128, .f32⟩
  | 117 => ⟨S4, .i32⟩
  | 118 => ⟨S4x1x1, .i32⟩
  | 119 => ⟨S_, .i32⟩
  | 120 => ⟨S4x1x1, .i32⟩
  | 121 => ⟨S4x1x1, .i1⟩
  | 122 => ⟨S_, .i32⟩
  | 123 => ⟨S4x1x1, .i32⟩
  | 124 => ⟨S4x1x1, .i32⟩
  | 125 => ⟨S4x1x1, .i32⟩
  | 126 => ⟨S_, .i32⟩
  | 127 => ⟨S4x2048x24, .i32⟩
  | _ => ⟨S4x8192x3, .f32⟩

abbrev hbmTy0_1 (i : Nat) : BufTy := match i % 128 with
  | 0 => ⟨S4x2048x24, .i1⟩
  | 1 => ⟨S_, .i32⟩
  | 2 => ⟨S4x2048x24, .i32⟩
  | 3 => ⟨S4x2048x24, .i32⟩
  | 4 => ⟨S4x2048x24, .i32⟩
  | 5 => ⟨S4x2048x24, .i32⟩
  | 6 => ⟨S4x2048x24x1, .i32⟩
  | 7 => ⟨S4x2048x24x1, .i32⟩
  | 8 => ⟨S4x2048x24x2, .i32⟩
  | 9 => ⟨S4x2048x24x3, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | .local _ .vmem, ⟨0, _⟩ => ⟨S3x4x64x128, .f32⟩
  | .local _ .vmem, ⟨1, _⟩ => ⟨S2048x4, .i32⟩
  | .local _ .vmem, ⟨2, _⟩ => ⟨S1x256x3, .f32⟩
  | .local _ .vmem, ⟨3, _⟩ => ⟨S1x256x3, .f32⟩
  | .local _ .vmem, ⟨4, _⟩ => ⟨S1x3x8192, .f32⟩
  | .local _ .vmem, ⟨5, _⟩ => ⟨S1x3x8192, .f32⟩
  | .local _ .vmem, ⟨6, _⟩ => ⟨S1x256x8192, .f32⟩
  | .local _ .vmem, ⟨7, _⟩ => ⟨S1x256x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_7 : Ref sig .tc := ⟨.hbm, 51, rfl⟩
abbrev main_v40 : Ref sig .tc := ⟨.hbm, 52, rfl⟩
abbrev main_v41 : Ref sig .tc := ⟨.hbm, 53, rfl⟩
abbrev main_c_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_9 : Ref sig .tc := ⟨.hbm, 58, rfl⟩
abbrev main_v45 : Ref sig .tc := ⟨.hbm, 59, rfl⟩
abbrev main_v46 : Ref sig .tc := ⟨.hbm, 60, rfl⟩
abbrev main_c_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_values : Ref sig .tc := ⟨.hbm, 73, rfl⟩
abbrev main_indices : Ref sig .tc := ⟨.hbm, 74, rfl⟩
abbrev main_v58 : Ref sig .tc := ⟨.hbm, 75, rfl⟩
abbrev main_v59 : Ref sig .tc := ⟨.hbm, 76, rfl⟩
abbrev main_c_11 : Ref sig .tc := ⟨.hbm, 77, rfl⟩
abbrev main_v60 : Ref sig .tc := ⟨.hbm, 78, rfl⟩
abbrev main_v61 : Ref sig .tc := ⟨.hbm, 79, rfl⟩
abbrev main_c_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_13 : Ref sig .tc := ⟨.hbm, 84, rfl⟩
abbrev main_v65 : Ref sig .tc := ⟨.hbm, 85, rfl⟩
abbrev main_v66 : Ref sig .tc := ⟨.hbm, 86, rfl⟩
abbrev main_c_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_15 : Ref sig .tc := ⟨.hbm, 98, rfl⟩
abbrev main_v77 : Ref sig .tc := ⟨.hbm, 99, rfl⟩
abbrev main_v78 : Ref sig .tc := ⟨.hbm, 100, rfl⟩
abbrev main_c_16 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_17 : Ref sig .tc := ⟨.hbm, 105, rfl⟩
abbrev main_v82 : Ref sig .tc := ⟨.hbm, 106, rfl⟩
abbrev main_v83 : Ref sig .tc := ⟨.hbm, 107, rfl⟩
abbrev main_c_18 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_c_19 : Ref sig .tc := ⟨.hbm, 119, rfl⟩
abbrev main_v94 : Ref sig .tc := ⟨.hbm, 120, rfl⟩
abbrev main_v95 : Ref sig .tc := ⟨.hbm, 121, rfl⟩
abbrev main_c_20 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_c_21 : Ref sig .tc := ⟨.hbm, 126, rfl⟩
abbrev main_v99 : Ref sig .tc := ⟨.hbm, 127, rfl⟩
abbrev main_v100 : Ref sig .tc := ⟨.hbm, 128, rfl⟩
abbrev main_c_22 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_9 : BitVec 32 := 0#32
  let c2048_i32 : BitVec 32 := 2048#32
  let v13 : BitVec 32 := Scalar.addi c0_i32_9 c2048_i32
  let c1_i32 : BitVec 32 := 1#32
  ⟨c0_i32_9, v13, c1_i32⟩
def k0_off1 (k0_t1 : Fin k0_t1_loop.trips) : Fin 2 → Nat :=
  let c0_i32_9 : BitVec 32 := 0#32
  let c1_i32 : BitVec 32 := 1#32
  let arg2 : BitVec 32 := Scf.iv c0_i32_9 c1_i32 k0_t1
  let v16 : Index := Scalar.indexCast arg2
  let c0_11 : Index := 0#32
  ![v16.toNat, 0]
abbrev stage0_0 : Fin 1 → Memref sig .tc .vmem S3x4x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S4x8192x3 : Shape := ⟨3, ![4, 8192, 3]⟩
abbrev S4x8192x128 : Shape := ⟨3, ![4, 8192, 128]⟩
abbrev S_ : Shape := ⟨0, ![]⟩
abbrev S4x8192 : Shape := ⟨2, ![4, 8192]⟩
abbrev S4 : Shape := ⟨1, ![4]⟩
abbrev S2048x4 : Shape := ⟨2, ![2048, 4]⟩
abbrev S4x1 : Shape := ⟨2, ![4, 1]⟩
abbrev S4x2 : Shape := ⟨2, ![4, 2]⟩
abbrev S4x3 : Shape := ⟨2, ![4, 3]⟩
abbrev S4x1x3 : Shape := ⟨3, ![4, 1, 3]⟩
abbrev S1x4 : Shape := ⟨2, ![1, 4]⟩
abbrev S4x2048 : Shape := ⟨2, ![4, 2048]⟩
abbrev S4x2048x1 : Shape := ⟨3, ![4, 2048, 1]⟩
abbrev S4x2048x2 : Shape := ⟨3, ![4, 2048, 2]⟩
abbrev S4x2048x3 : Shape := ⟨3, ![4, 2048, 3]⟩
abbrev S4x2048x128 : Shape := ⟨3, ![4, 2048, 128]⟩
abbrev S4x2048x8192 : Shape := ⟨3, ![4, 2048, 8192]⟩
abbrev S4x1x8192 : Shape := ⟨3, ![4, 1, 8192]⟩
abbrev S4x2048x24 : Shape := ⟨3, ![4, 2048, 24]⟩
abbrev S4x1x1 : Shape := ⟨3, ![4, 1, 1]⟩
abbrev S4x2048x24x1 : Shape := ⟨4, ![4, 2048, 24, 1]⟩
abbrev S4x2048x24x2 : Shape := ⟨4, ![4, 2048, 24, 2]⟩
abbrev S4x2048x24x3 : Shape := ⟨4, ![4, 2048, 24, 3]⟩
abbrev S4x2048x24x128 : Shape := ⟨4, ![4, 2048, 24, 128]⟩

abbrev nBuf : Space → Nat
  | .hbm => 199
  | .vmem => 0
  | .smem => 0
  | _ => 0

abbrev hbmTy0_0 (i : Nat) : BufTy := match i % 128 with
  | 0 => ⟨S4x8192x3, .f32⟩
  | 1 => ⟨S4x8192x128, .f32⟩
  | 2 => ⟨S4x8192x3, .f32⟩
  | 3 => ⟨S_, .f32⟩
  | 4 => ⟨S4x8192, .f32⟩
  | 5 => ⟨S_, .i32⟩
  | 6 => ⟨S4, .i32⟩
  | 7 => ⟨S_, .i32⟩
  | 8 => ⟨S2048x4, .i32⟩
  | 9 => ⟨S_, .i32⟩
  | 10 => ⟨S4x8192x3, .f32⟩
  | 11 => ⟨S_, .i32⟩
  | 12 => ⟨S4x8192, .f32⟩
  | 13 => ⟨S4, .i32⟩
  | 14 => ⟨S2048x4, .i32⟩
  | 15 => ⟨S_, .i32⟩
  | 16 => ⟨S_, .i1⟩
  | 17 => ⟨S4, .i32⟩
  | 18 => ⟨S_, .i32⟩
  | 19 => ⟨S4, .i32⟩
  | 20 => ⟨S4, .i1⟩
  | 21 => ⟨S_, .i32⟩
  | 22 => ⟨S4, .i32⟩
  | 23 => ⟨S4, .i32⟩
  | 24 => ⟨S4, .i32⟩
  | 25 => ⟨S_, .i32⟩
  | 26 => ⟨S4, .i32⟩
  | 27 => ⟨S4, .i1⟩
  | 28 => ⟨S_, .i32⟩
  | 29 => ⟨S4, .i32⟩
  | 30 => ⟨S4, .i32⟩
  | 31 => ⟨S4, .i32⟩
  | 32 => ⟨S4x1, .i32⟩
  | 33 => ⟨S4x1, .i32⟩
  | 34 => ⟨S4x2, .i32⟩
  | 35 => ⟨S4x3, .f32⟩
  | 36 => ⟨S4x1x3, .f32⟩
  | 37 => ⟨S4x8192x3, .f32⟩
  | 38 => ⟨S4x8192x3, .f32⟩
  | 39 => ⟨S4x8192x3, .f32⟩
  | 40 => ⟨S_, .f32⟩
  | 41 => ⟨S4x8192, .f32⟩
  | 42 => ⟨S4x8192, .f32⟩
  | 43 => ⟨S4x8192, .i32⟩
  | 44 => ⟨S_, .f32⟩
  | 45 => ⟨S_, .i32⟩
  | 46 => ⟨S4, .f32⟩
  | 47 => ⟨S4, .i32⟩
  | 48 => ⟨S1x4, .i32⟩
  | 49 => ⟨S_, .i32⟩
  | 50 => ⟨S2048x4, .i32⟩
  | 51 => ⟨S_, .i32⟩
  | 52 => ⟨S_, .i32⟩
  | 53 => ⟨S4x2048, .i32⟩
  | 54 => ⟨S4, .i32⟩
  | 55 => ⟨S4x1, .i32⟩
  | 56 => ⟨S_, .i32⟩
  | 57 => ⟨S4x1, .i32⟩
  | 58 => ⟨S4x1, .i1⟩
  | 59 => ⟨S_, .i32⟩
  | 60 => ⟨S4x1, .i32⟩
  | 61 => ⟨S4x1, .i32⟩
  | 62 => ⟨S4x1, .i32⟩
  | 63 => ⟨S_, .i32⟩
  | 64 => ⟨S4x2048, .i32⟩
  | 65 => ⟨S4x2048, .i1⟩
  | 66 => ⟨S_, .i32⟩
  | 67 => ⟨S4x2048, .i32⟩
  | 68 => ⟨S4x2048, .i32⟩
  | 69 => ⟨S4x2048, .i32⟩
  | 70 => ⟨S4x2048, .i32⟩
  | 71 => ⟨S4x2048x1, .i32⟩
  | 72 => ⟨S4x2048x1, .i32⟩
  | 73 => ⟨S4x2048x2, .i32⟩
  | 74 => ⟨S4x2048x3, .f32⟩
  | 75 => ⟨S4, .i32⟩
  | 76 => ⟨S4x1, .i32⟩
  | 77 => ⟨S_, .i32⟩
  | 78 => ⟨S4x1, .i32⟩
  | 79 => ⟨S4x1, .i1⟩
  | 80 => ⟨S_, .i32⟩
  | 81 => ⟨S4x1, .i32⟩
  | 82 => ⟨S4x1, .i32⟩
  | 83 => ⟨S4x1, .i32⟩
  | 84 => ⟨S_, .i32⟩
  | 85 => ⟨S4x2048, .i32⟩
  | 86 => ⟨S4x2048, .i1⟩
  | 87 => ⟨S_, .i32⟩
  | 88 => ⟨S4x2048, .i32⟩
  | 89 => ⟨S4x2048, .i32⟩
  | 90 => ⟨S4x2048, .i32⟩
  | 91 => ⟨S4x2048, .i32⟩
  | 92 => ⟨S4x2048x1, .i32⟩
  | 93 => ⟨S4x2048x1, .i32⟩
  | 94 => ⟨S4x2048x2, .i32⟩
  | 95 => ⟨S4x2048x128, .f32⟩
  | 96 => ⟨S4, .i32⟩
  | 97 => ⟨S4x1, .i32⟩
  | 98 => ⟨S_, .i32⟩
  | 99 => ⟨S4x1, .i32⟩
  | 100 => ⟨S4x1, .i1⟩
  | 101 => ⟨S_, .i32⟩
  | 102 => ⟨S4x1, .i32⟩
  | 103 => ⟨S4x1, .i32⟩
  | 104 => ⟨S4x1, .i32⟩
  | 105 => ⟨S_, .i32⟩
  | 106 => ⟨S4x2048, .i32⟩
  | 107 => ⟨S4x2048, .i1⟩
  | 108 => ⟨S_, .i32⟩
  | 109 => ⟨S4x2048, .i32⟩
  | 110 => ⟨S4x2048, .i32⟩
  | 111 => ⟨S4x2048, .i32⟩
  | 112 => ⟨S4x2048, .i32⟩
  | 113 => ⟨S4x2048x1, .i32⟩
  | 114 => ⟨S4x2048x1, .i32⟩
  | 115 => ⟨S4x2048x2, .i32⟩
  | 116 => ⟨S4x2048x3, .f32⟩
  | 117 => ⟨S4x2048x3, .f32⟩
  | 118 => ⟨S_, .f32⟩
  | 119 => ⟨S4x2048, .f32⟩
  | 120 => ⟨S4x2048x1, .f32⟩
  | 121 => ⟨S4x2048x8192, .f32⟩
  | 122 => ⟨S_, .f32⟩
  | 123 => ⟨S4x2048x8192, .f32⟩
  | 124 => ⟨S4x2048x8192, .f32⟩
  | 125 => ⟨S4x2048x8192, .f32⟩
  | 126 => ⟨S4x2048x8192, .f32⟩
  | 127 => ⟨S4x8192x3, .f32⟩
  | _ => ⟨S4x8192x3, .f32⟩

abbrev hbmTy0_1 (i : Nat) : BufTy := match i % 128 with
  | 0 => ⟨S_, .f32⟩
  | 1 => ⟨S4x8192, .f32⟩
  | 2 => ⟨S4x1x8192, .f32⟩
  | 3 => ⟨S4x2048x8192, .f32⟩
  | 4 => ⟨S4x2048x8192, .f32⟩
  | 5 => ⟨S4x2048x8192, .f32⟩
  | 6 => ⟨S4x2048x24, .f32⟩
  | 7 => ⟨S4x2048x24, .i32⟩
  | 8 => ⟨S4, .i32⟩
  | 9 => ⟨S4x1x1, .i32⟩
  | 10 => ⟨S_, .i32⟩
  | 11 => ⟨S4x1x1, .i32⟩
  | 12 => ⟨S4x1x1, .i1⟩
  | 13 => ⟨S_, .i32⟩
  | 14 => ⟨S4x1x1, .i32⟩
  | 15 => ⟨S4x1x1, .i32⟩
  | 16 => ⟨S4x1x1, .i32⟩
  | 17 => ⟨S_, .i32⟩
  | 18 => ⟨S4x2048x24, .i32⟩
  | 19 => ⟨S4x2048x24, .i1⟩
  | 20 => ⟨S_, .i32⟩
  | 21 => ⟨S4x2048x24, .i32⟩
  | 22 => ⟨S4x2048x24, .i32⟩
  | 23 => ⟨S4x2048x24, .i32⟩
  | 24 => ⟨S4x2048x24, .i32⟩
  | 25 => ⟨S4x2048x24x1, .i32⟩
  | 26 => ⟨S4x2048x24x1, .i32⟩
  | 27 => ⟨S4x2048x24x2, .i32⟩
  | 28 => ⟨S4x2048x24x3, .f32⟩
  | 29 => ⟨S4, .i32⟩
  | 30 => ⟨S4x1x1, .i32⟩
  | 31 => ⟨S_, .i32⟩
  | 32 => ⟨S4x1x1, .i32⟩
  | 33 => ⟨S4x1x1, .i1⟩
  | 34 => ⟨S_, .i32⟩
  | 35 => ⟨S4x1x1, .i32⟩
  | 36 => ⟨S4x1x1, .i32⟩
  | 37 => ⟨S4x1x1, .i32⟩
  | 38 => ⟨S_, .i32⟩
  | 39 => ⟨S4x2048x24, .i32⟩
  | 40 => ⟨S4x2048x24, .i1⟩
  | 41 => ⟨S_, .i32⟩
  | 42 => ⟨S4x2048x24, .i32⟩
  | 43 => ⟨S4x2048x24, .i32⟩
  | 44 => ⟨S4x2048x24, .i32⟩
  | 45 => ⟨S4x2048x24, .i32⟩
  | 46 => ⟨S4x2048x24x1, .i32⟩
  | 47 => ⟨S4x2048x24x1, .i32⟩
  | 48 => ⟨S4x2048x24x2, .i32⟩
  | 49 => ⟨S4x2048x24x128, .f32⟩
  | 50 => ⟨S4, .i32⟩
  | 51 => ⟨S4x1x1, .i32⟩
  | 52 => ⟨S_, .i32⟩
  | 53 => ⟨S4x1x1, .i32⟩
  | 54 => ⟨S4x1x1, .i1⟩
  | 55 => ⟨S_, .i32⟩
  | 56 => ⟨S4x1x1, .i32⟩
  | 57 => ⟨S4x1x1, .i32⟩
  | 58 => ⟨S4x1x1, .i32⟩
  | 59 => ⟨S_, .i32⟩
  | 60 => ⟨S4x2048x24, .i32⟩
  | 61 => ⟨S4x2048x24, .i1⟩
  | 62 => ⟨S_, .i32⟩
  | 63 => ⟨S4x2048x24, .i32⟩
  | 64 => ⟨S4x2048x24, .i32⟩
  | 65 => ⟨S4x2048x24, .i32⟩
  | 66 => ⟨S4x2048x24, .i32⟩
  | 67 => ⟨S4x2048x24x1, .i32⟩
  | 68 => ⟨S4x2048x24x1, .i32⟩
  | 69 => ⟨S4x2048x24x2, .i32⟩
  | 70 => ⟨S4x2048x24x3, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_c_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_while0c_c_33 : Ref sig .tc := ⟨.hbm, 15, rfl⟩
abbrev main_while0c_v121 : Ref sig .tc := ⟨.hbm, 16, rfl⟩
abbrev main_while0b_v121 : Ref sig .tc := ⟨.hbm, 17, rfl⟩
abbrev main_while0b_c_33 : Ref sig .tc := ⟨.hbm, 18, rfl⟩
abbrev main_while0b_v122 : Ref sig .tc := ⟨.hbm, 19, rfl⟩
abbrev main_while0b_v123 : Ref sig .tc := ⟨.hbm, 20, rfl⟩
abbrev main_while0b_c_34 : Ref sig .tc := ⟨.hbm, 21, rfl⟩
abbrev main_while0b_v124 : Ref sig .tc := ⟨.hbm, 22, rfl⟩
abbrev main_while0b_v125 : Ref sig .tc := ⟨.hbm, 23, rfl⟩
abbrev main_while0b_v126 : Ref sig .tc := ⟨.hbm, 24, rfl⟩
abbrev main_while0b_c_35 : Ref sig .tc := ⟨.hbm, 25, rfl⟩
abbrev main_while0b_v127 : Ref sig .tc := ⟨.hbm, 26, rfl⟩
abbrev main_while0b_v128 : Ref sig .tc := ⟨.hbm, 27, rfl⟩
abbrev main_while0b_c_36 : Ref sig .tc := ⟨.hbm, 28, rfl⟩
abbrev main_while0b_v129 : Ref sig .tc := ⟨.hbm, 29, rfl⟩
abbrev main_while0b_v130 : Ref sig .tc := ⟨.hbm, 30, rfl⟩
abbrev main_while0b_v131 : Ref sig .tc := ⟨.hbm, 31, rfl⟩
abbrev main_while0b_v132 : Ref sig .tc := ⟨.hbm, 32, rfl⟩
abbrev main_while0b_v133 : Ref sig .tc := ⟨.hbm, 33, rfl⟩
abbrev main_while0b_v134 : Ref sig .tc := ⟨.hbm, 34, rfl⟩
abbrev main_while0b_v135 : Ref sig .tc := ⟨.hbm, 35, rfl⟩
abbrev main_while0b_v136 : Ref sig .tc := ⟨.hbm, 36, rfl⟩
abbrev main_while0b_v137 : Ref sig .tc := ⟨.hbm, 37, rfl⟩
abbrev main_while0b_v138 : Ref sig .tc := ⟨.hbm, 38, rfl⟩
abbrev main_while0b_v139 : Ref sig .tc := ⟨.hbm, 39, rfl⟩
abbrev main_while0b_cst_37 : Ref sig .tc := ⟨.hbm, 40, rfl⟩
abbrev main_while0b_v140 : Ref sig .tc := ⟨.hbm, 41, rfl⟩
abbrev main_while0b_v141 : Ref sig .tc := ⟨.hbm, 42, rfl⟩
abbrev main_while0b_call0_v0 : Ref sig .tc := ⟨.hbm, 43, rfl⟩
abbrev main_while0b_call0_cst : Ref sig .tc := ⟨.hbm, 44, rfl⟩
abbrev main_while0b_call0_c : Ref sig .tc := ⟨.hbm, 45, rfl⟩
abbrev main_while0b_call0_v1_0 : Ref sig .tc := ⟨.hbm, 46, rfl⟩
abbrev main_while0b_v142 : Ref sig .tc := ⟨.hbm, 47, rfl⟩
abbrev main_while0b_call1_v0 : Ref sig .tc := ⟨.hbm, 48, rfl⟩
abbrev main_while0b_call1_c : Ref sig .tc := ⟨.hbm, 49, rfl⟩
abbrev main_while0b_v143 : Ref sig .tc := ⟨.hbm, 50, rfl⟩
abbrev main_while0b_c_38 : Ref sig .tc := ⟨.hbm, 51, rfl⟩
abbrev main_while0b_v144 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_c_2 : Ref sig .tc := ⟨.hbm, 56, rfl⟩
abbrev main_v7 : Ref sig .tc := ⟨.hbm, 57, rfl⟩
abbrev main_v8 : Ref sig .tc := ⟨.hbm, 58, rfl⟩
abbrev main_c_3 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_c_4 : Ref sig .tc := ⟨.hbm, 63, rfl⟩
abbrev main_v12 : Ref sig .tc := ⟨.hbm, 64, rfl⟩
abbrev main_v13 : Ref sig .tc := ⟨.hbm, 65, rfl⟩
abbrev main_c_5 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_c_6 : Ref sig .tc := ⟨.hbm, 77, rfl⟩
abbrev main_v24 : Ref sig .tc := ⟨.hbm, 78, rfl⟩
abbrev main_v25 : Ref sig .tc := ⟨.hbm, 79, rfl⟩
abbrev main_c_7 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_c_8 : Ref sig .tc := ⟨.hbm, 84, rfl⟩
abbrev main_v29 : Ref sig .tc := ⟨.hbm, 85, rfl⟩
abbrev main_v30 : Ref sig .tc := ⟨.hbm, 86, rfl⟩
abbrev main_c_9 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_c_10 : Ref sig .tc := ⟨.hbm, 98, rfl⟩
abbrev main_v41 : Ref sig .tc := ⟨.hbm, 99, rfl⟩
abbrev main_v42 : Ref sig .tc := ⟨.hbm, 100, rfl⟩
abbrev main_c_11 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_c_12 : Ref sig .tc := ⟨.hbm, 105, rfl⟩
abbrev main_v46 : Ref sig .tc := ⟨.hbm, 106, rfl⟩
abbrev main_v47 : Ref sig .tc := ⟨.hbm, 107, rfl⟩
abbrev main_c_13 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_cst_14 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_cst_15 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_cst_16 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_values : Ref sig .tc := ⟨.hbm, 134, rfl⟩
abbrev main_indices : Ref sig .tc := ⟨.hbm, 135, rfl⟩
abbrev main_v70 : Ref sig .tc := ⟨.hbm, 136, rfl⟩
abbrev main_v71 : Ref sig .tc := ⟨.hbm, 137, rfl⟩
abbrev main_c_17 : Ref sig .tc := ⟨.hbm, 138, rfl⟩
abbrev main_v72 : Ref sig .tc := ⟨.hbm, 139, rfl⟩
abbrev main_v73 : Ref sig .tc := ⟨.hbm, 140, rfl⟩
abbrev main_c_18 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_c_19 : Ref sig .tc := ⟨.hbm, 145, rfl⟩
abbrev main_v77 : Ref sig .tc := ⟨.hbm, 146, rfl⟩
abbrev main_v78 : Ref sig .tc := ⟨.hbm, 147, rfl⟩
abbrev main_c_20 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_c_21 : Ref sig .tc := ⟨.hbm, 159, rfl⟩
abbrev main_v89 : Ref sig .tc := ⟨.hbm, 160, rfl⟩
abbrev main_v90 : Ref sig .tc := ⟨.hbm, 161, rfl⟩
abbrev main_c_22 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_c_23 : Ref sig .tc := ⟨.hbm, 166, rfl⟩
abbrev main_v94 : Ref sig .tc := ⟨.hbm, 167, rfl⟩
abbrev main_v95 : Ref sig .tc := ⟨.hbm, 168, rfl⟩
abbrev main_c_24 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_c_25 : Ref sig .tc := ⟨.hbm, 180, rfl⟩
abbrev main_v106 : Ref sig .tc := ⟨.hbm, 181, rfl⟩
abbrev main_v107 : Ref sig .tc := ⟨.hbm, 182, rfl⟩
abbrev main_c_26 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_c_27 : Ref sig .tc := ⟨.hbm, 187, rfl⟩
abbrev main_v111 : Ref sig .tc := ⟨.hbm, 188, rfl⟩
abbrev main_v112 : Ref sig .tc := ⟨.hbm, 189, rfl⟩
abbrev main_c_28 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩

abbrev nD : Nat := 1
abbrev τ : Topo := Topo.v7x

variable {F : FTy → Type} [FloatOps F]

abbrev main_while0_count : Scf.Loop 32 := ⟨0#32, 2048#32, 1#32⟩
-- ==== Proof.RefRun.lean ====
/- The run of the reference program. Its main function is a stretch of array operations, one loop of 2048 trips, and a
   longer stretch of array operations. `run_all`: every execution ends, with every array at the contents the operations
   make in order. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4096

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The operations, in order -/

/-- The main function's programs. -/
abbrev HostProg (F : FTy → Type) [FloatOps F] := Prog (TpuEff nD τ sig (Elt F) (HostLoop.Sig (Pipeline.Sig Λ₀ (Fin 0) fun p => (pcfgs (F := F) p).Adm) 1) .tc) PUnit

/-- The operations before the loop: the starting distances, the starting point, the empty index array, and the copies into the carried buffers. -/
abbrev preOps : List (HloOp τ sig (Elt F)) :=
  [ nullary main_cst (constant S_ .f32 0x501502F9#32),
    unary main_cst main_v0 (broadcastInDim S4x8192 ![] bcast_S_S4x8192 : (⟨S_, .f32⟩ : BufTy).Contents (Elt F) → (⟨S4x8192, .f32⟩ : BufTy).Contents (Elt F)),
    nullary main_c (constantI S_ 32 0#32),
    unary main_c main_v1 (broadcastInDim S4 ![] bcast_S_S4 : (⟨S_, .i32⟩ : BufTy).Contents (Elt F) → (⟨S4, .i32⟩ : BufTy).Contents (Elt F)),
    nullary main_c_0 (constantI S_ 32 0#32),
    unary main_c_0 main_v2 (broadcastInDim S2048x4 ![] bcast_S_S2048x4 : (⟨S_, .i32⟩ : BufTy).Contents (Elt F) → (⟨S2048x4, .i32⟩ : BufTy).Contents (Elt F)),
    nullary main_c_1 (constantI S_ 32 0#32),
    unary main_arg0 main_v3_0 id,
    unary main_c_1 main_v3_1 id,
    unary main_v0 main_v3_2 id,
    unary main_v1 main_v3_3 id,
    unary main_v2 main_v3_4 id ]

/-- One trip, first part: the chosen point is read, and the distances are lowered to the distance from it. -/
abbrev tripDist : List (HloOp τ sig (Elt F)) :=
  [ nullary main_while0b_v121 (iotaInDim S4 32 0),
    nullary main_while0b_c_33 (constantI S_ 32 0#32),
    unary main_while0b_c_33 main_while0b_v122 (broadcastInDim S4 ![] bcast_S_S4 : (⟨S_, .i32⟩ : BufTy).Contents (Elt F) → (⟨S4, .i32⟩ : BufTy).Contents (Elt F)),
    binary main_while0b_v121 main_while0b_v122 main_while0b_v123 (cmpi .slt : (⟨S4, .i32⟩ : BufTy).Contents (Elt F) → (⟨S4, .i32⟩ : BufTy).Contents (Elt F) → (⟨S4, .i1⟩ : BufTy).Contents (Elt F)),
    nullary main_while0b_c_34 (constantI S_ 32 4#32),
    unary main_while0b_c_34 main_while0b_v124 (broadcastInDim S4 ![] bcast_S_S4 : (⟨S_, .i32⟩ : BufTy).Contents (Elt F) → (⟨S4, .i32⟩ : BufTy).Contents (Elt F)),
    binary main_while0b_v121 main_while0b_v124 main_while0b_v125 (addi : (⟨S4, .i32⟩ : BufTy).Contents (Elt F) → (⟨S4, .i32⟩ : BufTy).Contents (Elt F) → (⟨S4, .i32⟩ : BufTy).Contents (Elt F)),
    ternary main_while0b_v123 main_while0b_v125 main_while0b_v121 main_while0b_v126 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_while0b_c_35 (constantI S_ 32 0#32),
    unary main_while0b_c_35 main_while0b_v127 (broadcastInDim S4 ![] bcast_S_S4 : (⟨S_, .i32⟩ : BufTy).Contents (Elt F) → (⟨S4, .i32⟩ : BufTy).Contents (Elt F)),
    binary main_v3_3 main_while0b_v127 main_while0b_v128 (cmpi .slt : (⟨S4, .i32⟩ : BufTy).Contents (Elt F) → (⟨S4, .i32⟩ : BufTy).Contents (Elt F) → (⟨S4, .i1⟩ : BufTy).Contents (Elt F)),
    nullary main_while0b_c_36 (constantI S_ 32 8192#32),
    unary main_while0b_c_36 main_while0b_v129 (broadcastInDim S4 ![] bcast_S_S4 : (⟨S_, .i32⟩ : BufTy).Contents (Elt F) → (⟨S4, .i32⟩ : BufTy).Contents (Elt F)),
    binary main_v3_3 main_while0b_v129 main_while0b_v130 (addi : (⟨S4, .i32⟩ : BufTy).Contents (Elt F) → (⟨S4, .i32⟩ : BufTy).Contents (Elt F) → (⟨S4, .i32⟩ : BufTy).Contents (Elt F)),
    ternary main_while0b_v128 main_while0b_v130 main_v3_3 main_while0b_v131 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_while0b_v126 main_while0b_v132 (broadcastInDim S4x1 ![0] bcast_S4_S4x1_0 : (⟨S4, .i32⟩ : BufTy).Contents (Elt F) → (⟨S4x1, .i32⟩ : BufTy).Contents (Elt F)),
    unary main_while0b_v131 main_while0b_v133 (broadcastInDim S4x1 ![0] bcast_S4_S4x1_0 : (⟨S4, .i32⟩ : BufTy).Contents (Elt F) → (⟨S4x1, .i32⟩ : BufTy).Contents (Elt F)),
    binary main_while0b_v132 main_while0b_v133 main_while0b_v134 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    binary main_v3_0 main_while0b_v134 main_while0b_v135 ((fun x i => Host.gather gather_S4x8192x3_S4x2_S4x3_1_01_n_n_01_1_113 x i) : (⟨S4x8192x3, .f32⟩ : BufTy).Contents (Elt F) → (⟨S4x2, .i32⟩ : BufTy).Contents (Elt F) → (⟨S4x3, .f32⟩ : BufTy).Contents (Elt F)),
    unary main_while0b_v135 main_while0b_v136 (broadcastInDim S4x1x3 ![0, 2] bcast_S4x3_S4x1x3_0_2 : (⟨S4x3, .f32⟩ : BufTy).Contents (Elt F) → (⟨S4x1x3, .f32⟩ : BufTy).Contents (Elt F)),
    unary main_while0b_v136 main_while0b_v137 (broadcastInDim S4x8192x3 ![0, 1, 2] bcast_S4x1x3_S4x8192x3_0_1_2 : (⟨S4x1x3, .f32⟩ : BufTy).Contents (Elt F) → (⟨S4x8192x3, .f32⟩ : BufTy).Contents (Elt F)),
    binary main_v3_0 main_while0b_v137 main_while0b_v138 (subf : (⟨S4x8192x3, .f32⟩ : BufTy).Contents (Elt F) → (⟨S4x8192x3, .f32⟩ : BufTy).Contents (Elt F) → (⟨S4x8192x3, .f32⟩ : BufTy).Contents (Elt F)),
    binary main_while0b_v138 main_while0b_v138 main_while0b_v139 (mulf : (⟨S4x8192x3, .f32⟩ : BufTy).Contents (Elt F) → (⟨S4x8192x3, .f32⟩ : BufTy).Contents (Elt F) → (⟨S4x8192x3, .f32⟩ : BufTy).Contents (Elt F)),
    nullary main_while0b_cst_37 (constant S_ .f32 0x00000000#32),
    binary main_while0b_v139 main_while0b_cst_37 main_while0b_v140 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
    binary main_v3_2 main_while0b_v140 main_while0b_v141 (minimumf : (⟨S4x8192, .f32⟩ : BufTy).Contents (Elt F) → (⟨S4x8192, .f32⟩ : BufTy).Contents (Elt F) → (⟨S4x8192, .f32⟩ : BufTy).Contents (Elt F)) ]

/-- One trip, last part: the counter, and the copies into the carried buffers. -/
abbrev tripEnd : List (HloOp τ sig (Elt F)) :=
  [ nullary main_while0b_c_38 (constantI S_ 32 1#32),
    binary main_v3_1 main_while0b_c_38 main_while0b_v144 (addi : (⟨S_, .i32⟩ : BufTy).Contents (Elt F) → (⟨S_, .i32⟩ : BufTy).Contents (Elt F) → (⟨S_, .i32⟩ : BufTy).Contents (Elt F)),
    unary main_while0b_v144 main_v3_1 id,
    unary main_while0b_v141 main_v3_2 id,
    unary main_while0b_v142 main_v3_3 id,
    unary main_while0b_v143 main_v3_4 id ]

/-- One trip, second part: the index of the greatest distance in each row. -/
abbrev tripFar : List (HloOp τ sig (Elt F)) :=
  [ TRef.nullary (.of main_while0b_call0_v0 : TRef sig ⟨S4x8192, .i32⟩) (iotaInDim S4x8192 32 1),
    TRef.nullary (.of main_while0b_call0_cst : TRef sig ⟨S_, .f32⟩) (constant S_ .f32 0xFF800000#32),
    TRef.nullary (.of main_while0b_call0_c : TRef sig ⟨S_, .i32⟩) (constantI S_ 32 0#32),
    TRef.quaternary (.of main_while0b_v141 : TRef sig ⟨S4x8192, .f32⟩) (.of main_while0b_call0_v0 : TRef sig ⟨S4x8192, .i32⟩) (.of main_while0b_call0_cst : TRef sig ⟨S_, .f32⟩) (.of main_while0b_call0_c : TRef sig ⟨S_, .i32⟩) (.of main_while0b_call0_v1_0 : TRef sig ⟨S4, .f32⟩)
      (fun x y u v j => (Host.argReduce reducer_argmax_f32_i32 x y u v reducesTo_S4x8192_S4_d1 h_S_ j).1),
    TRef.quaternary (.of main_while0b_v141 : TRef sig ⟨S4x8192, .f32⟩) (.of main_while0b_call0_v0 : TRef sig ⟨S4x8192, .i32⟩) (.of main_while0b_call0_cst : TRef sig ⟨S_, .f32⟩) (.of main_while0b_call0_c : TRef sig ⟨S_, .i32⟩) (.of main_while0b_v142 : TRef sig ⟨S4, .i32⟩)
      (fun x y u v j => (Host.argReduce reducer_argmax_f32_i32 x y u v reducesTo_S4x8192_S4_d1 h_S_ j).2) ]

/-- One trip, third part: the index chosen before is stored as a row of the index array. -/
abbrev tripRow : List (HloOp τ sig (Elt F)) :=
  [ TRef.unary (.of main_v3_3 : TRef sig ⟨S4, .i32⟩) (.of main_while0b_call1_v0 : TRef sig ⟨S1x4, .i32⟩) (broadcastInDim S1x4 ![1] bcast_S4_S1x4_1),
    TRef.nullary (.of main_while0b_call1_c : TRef sig ⟨S_, .i32⟩) (constantI S_ 32 0#32),
    TRef.binaryIndexed (.of main_v3_4 : TRef sig ⟨S2048x4, .i32⟩) (.of main_while0b_call1_v0 : TRef sig ⟨S1x4, .i32⟩) ![(.of main_v3_1 : TRef sig ⟨S_, .i32⟩), (.of main_while0b_call1_c : TRef sig ⟨S_, .i32⟩)] (.of main_while0b_v143 : TRef sig ⟨S2048x4, .i32⟩)
      (fun x u i => Host.dynamicUpdateSlice x u (fun k => (i k (Shape.Idx.first h_S_)).toInt) updateFits_S2048x4_S1x4) ]

set_option maxHeartbeats 4000000 in
/-- The operations after the loop, first part. -/
abbrev postA : List (HloOp τ sig (Elt F)) :=
  ( unary main_v3_4 main_v4 ((transpose S4x2048 [1, 0] · transposes_S2048x4_S4x2048_1_0) : (⟨S2048x4, .i32⟩ : BufTy).Contents (Elt F) → (⟨S4x2048, .i32⟩ : BufTy).Contents (Elt F))
  :: nullary main_v5 (iotaInDim S4 32 0)
  :: reshape main_v5 main_v6 (rfl : (.i32 : EltTy) = .i32) shapeCasts_S4_S4x1
  :: nullary main_c_2 (constantI S_ 32 0#32)
  :: unary main_c_2 main_v7 (broadcastInDim S4x1 ![] bcast_S_S4x1 : (⟨S_, .i32⟩ : BufTy).Contents (Elt F) → (⟨S4x1, .i32⟩ : BufTy).Contents (Elt F))
  :: binary main_v6 main_v7 main_v8 (cmpi .slt : (⟨S4x1, .i32⟩ : BufTy).Contents (Elt F) → (⟨S4x1, .i32⟩ : BufTy).Contents (Elt F) → (⟨S4x1, .i1⟩ : BufTy).Contents (Elt F))
  :: nullary main_c_3 (constantI S_ 32 4#32)
  :: unary main_c_3 main_v9 (broadcastInDim S4x1 ![] bcast_S_S4x1 : (⟨S_, .i32⟩ : BufTy).Contents (Elt F) → (⟨S4x1, .i32⟩ : BufTy).Contents (Elt F))
  :: binary main_v6 main_v9 main_v10 (addi : (⟨S4x1, .i32⟩ : BufTy).Contents (Elt F) → (⟨S4x1, .i32⟩ : BufTy).Contents (Elt F) → (⟨S4x1, .i32⟩ : BufTy).Contents (Elt F))
  :: ternary main_v8 main_v10 main_v6 main_v11 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F))
  :: nullary main_c_4 (constantI S_ 32 0#32)
  :: unary main_c_4 main_v12 (broadcastInDim S4x2048 ![] bcast_S_S4x2048 : (⟨S_, .i32⟩ : BufTy).Contents (Elt F) → (⟨S4x2048, .i32⟩ : BufTy).Contents (Elt F))
  :: binary main_v4 main_v12 main_v13 (cmpi .slt : (⟨S4x2048, .i32⟩ : BufTy).Contents (Elt F) → (⟨S4x2048, .i32⟩ : BufTy).Contents (Elt F) → (⟨S4x2048, .i1⟩ : BufTy).Contents (Elt F))
  :: nullary main_c_5 (constantI S_ 32 8192#32)
  :: unary main_c_5 main_v14 (broadcastInDim S4x2048 ![] bcast_S_S4x2048 : (⟨S_, .i32⟩ : BufTy).Contents (Elt F) → (⟨S4x2048, .i32⟩ : BufTy).Contents (Elt F))
  :: binary main_v4 main_v14 main_v15 (addi : (⟨S4x2048, .i32⟩ : BufTy).Contents (Elt F) → (⟨S4x2048, .i32⟩ : BufTy).Contents (Elt F) → (⟨S4x2048, .i32⟩ : BufTy).Contents (Elt F))
  :: ternary main_v13 main_v15 main_v4 main_v16 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F))
  :: unary main_v11 main_v17 (broadcastInDim S4x2048 ![0, 1] bcast_S4x1_S4x2048_0_1 : (⟨S4x1, .i32⟩ : BufTy).Contents (Elt F) → (⟨S4x2048, .i32⟩ : BufTy).Contents (Elt F))
  :: unary main_v17 main_v18 (broadcastInDim S4x2048x1 ![0, 1] bcast_S4x2048_S4x2048x1_0_1 : (⟨S4x2048, .i32⟩ : BufTy).Contents (Elt F) → (⟨S4x2048x1, .i32⟩ : BufTy).Contents (Elt F))
  :: unary main_v16 main_v19 (broadcastInDim S4x2048x1 ![0, 1] bcast_S4x2048_S4x2048x1_0_1 : (⟨S4x2048, .i32⟩ : BufTy).Contents (Elt F) → (⟨S4x2048x1, .i32⟩ : BufTy).Contents (Elt F))
  :: binary main_v18 main_v19 main_v20 ((fun a b => concatenate S4x2048x2 2 [⟨S4x2048x1, a⟩, ⟨S4x2048x1, b⟩] concatenates_S4x2048x1_S4x2048x1_S4x2048x2_d2) : (⟨S4x2048x1, .i32⟩ : BufTy).Contents (Elt F) → (⟨S4x2048x1, .i32⟩ : BufTy).Contents (Elt F) → (⟨S4x2048x2, .i32⟩ : BufTy).Contents (Elt F))
  :: binary main_arg0 main_v20 main_v21 ((fun x i => Host.gather gather_S4x8192x3_S4x2048x2_S4x2048x3_2_01_n_n_01_2_113 x i) : (⟨S4x8192x3, .f32⟩ : BufTy).Contents (Elt F) → (⟨S4x2048x2, .i32⟩ : BufTy).Contents (Elt F) → (⟨S4x2048x3, .f32⟩ : BufTy).Contents (Elt F))
  :: nullary main_v22 (iotaInDim S4 32 0)
  :: reshape main_v22 main_v23 (rfl : (.i32 : EltTy) = .i32) shapeCasts_S4_S4x1
  :: nullary main_c_6 (constantI S_ 32 0#32)
  :: unary main_c_6 main_v24 (broadcastInDim S4x1 ![] bcast_S_S4x1 : (⟨S_, .i32⟩ : BufTy).Contents (Elt F) → (⟨S4x1, .i32⟩ : BufTy).Contents (Elt F))
  :: binary main_v23 main_v24 main_v25 (cmpi .slt : (⟨S4x1, .i32⟩ : BufTy).Contents (Elt F) → (⟨S4x1, .i32⟩ : BufTy).Contents (Elt F) → (⟨S4x1, .i1⟩ : BufTy).Contents (Elt F))
  :: nullary main_c_7 (constantI S_ 32 4#32)
  :: unary main_c_7 main_v26 (broadcastInDim S4x1 ![] bcast_S_S4x1 : (⟨S_, .i32⟩ : BufTy).Contents (Elt F) → (⟨S4x1, .i32⟩ : BufTy).Contents (Elt F))
  :: binary main_v23 main_v26 main_v27 (addi : (⟨S4x1, .i32⟩ : BufTy).Contents (Elt F) → (⟨S4x1, .i32⟩ : BufTy).Contents (Elt F) → (⟨S4x1, .i32⟩ : BufTy).Contents (Elt F))
  :: ternary main_v25 main_v27 main_v23 main_v28 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F))
  :: nullary main_c_8 (constantI S_ 32 0#32)
  :: unary main_c_8 main_v29 (broadcastInDim S4x2048 ![] bcast_S_S4x2048 : (⟨S_, .i32⟩ : BufTy).Contents (Elt F) → (⟨S4x2048, .i32⟩ : BufTy).Contents (Elt F))
  :: binary main_v4 main_v29 main_v30 (cmpi .slt : (⟨S4x2048, .i32⟩ : BufTy).Contents (Elt F) → (⟨S4x2048, .i32⟩ : BufTy).Contents (Elt F) → (⟨S4x2048, .i1⟩ : BufTy).Contents (Elt F))
  :: nullary main_c_9 (constantI S_ 32 8192#32)
  :: unary main_c_9 main_v31 (broadcastInDim S4x2048 ![] bcast_S_S4x2048 : (⟨S_, .i32⟩ : BufTy).Contents (Elt F) → (⟨S4x2048, .i32⟩ : BufTy).Contents (Elt F))
  :: binary main_v4 main_v31 main_v32 (addi : (⟨S4x2048, .i32⟩ : BufTy).Contents (Elt F) → (⟨S4x2048, .i32⟩ : BufTy).Contents (Elt F) → (⟨S4x2048, .i32⟩ : BufTy).Contents (Elt F))
  :: ternary main_v30 main_v32 main_v4 main_v33 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F))
  :: unary main_v28 main_v34 (broadcastInDim S4x2048 ![0, 1] bcast_S4x1_S4x2048_0_1 : (⟨S4x1, .i32⟩ : BufTy).Contents (Elt F) → (⟨S4x2048, .i32⟩ : BufTy).Contents (Elt F))
  :: unary main_v34 main_v35 (broadcastInDim S4x2048x1 ![0, 1] bcast_S4x2048_S4x2048x1_0_1 : (⟨S4x2048, .i32⟩ : BufTy).Contents (Elt F) → (⟨S4x2048x1, .i32⟩ : BufTy).Contents (Elt F))
  :: unary main_v33 main_v36 (broadcastInDim S4x2048x1 ![0, 1] bcast_S4x2048_S4x2048x1_0_1 : (⟨S4x2048, .i32⟩ : BufTy).Contents (Elt F) → (⟨S4x2048x1, .i32⟩ : BufTy).Contents (Elt F))
  :: binary main_v35 main_v36 main_v37 ((fun a b => concatenate S4x2048x2 2 [⟨S4x2048x1, a⟩, ⟨S4x2048x1, b⟩] concatenates_S4x2048x1_S4x2048x1_S4x2048x2_d2) : (⟨S4x2048x1, .i32⟩ : BufTy).Contents (Elt F) → (⟨S4x2048x1, .i32⟩ : BufTy).Contents (Elt F) → (⟨S4x2048x2, .i32⟩ : BufTy).Contents (Elt F))
  :: binary main_arg1 main_v37 main_v38 ((fun x i => Host.gather gather_S4x8192x128_S4x2048x2_S4x2048x128_2_01_n_n_01_2_11128 x i) : (⟨S4x8192x128, .f32⟩ : BufTy).Contents (Elt F) → (⟨S4x2048x2, .i32⟩ : BufTy).Contents (Elt F) → (⟨S4x2048x128, .f32⟩ : BufTy).Contents (Elt F))
  :: nullary main_v39 (iotaInDim S4 32 0)
  :: reshape main_v39 main_v40 (rfl : (.i32 : EltTy) = .i32) shapeCasts_S4_S4x1
  :: nullary main_c_10 (constantI S_ 32 0#32)
  :: unary main_c_10 main_v41 (broadcastInDim S4x1 ![] bcast_S_S4x1 : (⟨S_, .i32⟩ : BufTy).Contents (Elt F) → (⟨S4x1, .i32⟩ : BufTy).Contents (Elt F))
  :: [] )

set_option maxHeartbeats 4000000 in
/-- The operations after the loop, second part. -/
abbrev postB : List (HloOp τ sig (Elt F)) :=
  ( binary main_v40 main_v41 main_v42 (cmpi .slt : (⟨S4x1, .i32⟩ : BufTy).Contents (Elt F) → (⟨S4x1, .i32⟩ : BufTy).Contents (Elt F) → (⟨S4x1, .i1⟩ : BufTy).Contents (Elt F))
  :: nullary main_c_11 (constantI S_ 32 4#32)
  :: unary main_c_11 main_v43 (broadcastInDim S4x1 ![] bcast_S_S4x1 : (⟨S_, .i32⟩ : BufTy).Contents (Elt F) → (⟨S4x1, .i32⟩ : BufTy).Contents (Elt F))
  :: binary main_v40 main_v43 main_v44 (addi : (⟨S4x1, .i32⟩ : BufTy).Contents (Elt F) → (⟨S4x1, .i32⟩ : BufTy).Contents (Elt F) → (⟨S4x1, .i32⟩ : BufTy).Contents (Elt F))
  :: ternary main_v42 main_v44 main_v40 main_v45 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F))
  :: nullary main_c_12 (constantI S_ 32 0#32)
  :: unary main_c_12 main_v46 (broadcastInDim S4x2048 ![] bcast_S_S4x2048 : (⟨S_, .i32⟩ : BufTy).Contents (Elt F) → (⟨S4x2048, .i32⟩ : BufTy).Contents (Elt F))
  :: binary main_v4 main_v46 main_v47 (cmpi .slt : (⟨S4x2048, .i32⟩ : BufTy).Contents (Elt F) → (⟨S4x2048, .i32⟩ : BufTy).Contents (Elt F) → (⟨S4x2048, .i1⟩ : BufTy).Contents (Elt F))
  :: nullary main_c_13 (constantI S_ 32 8192#32)
  :: unary main_c_13 main_v48 (broadcastInDim S4x2048 ![] bcast_S_S4x2048 : (⟨S_, .i32⟩ : BufTy).Contents (Elt F) → (⟨S4x2048, .i32⟩ : BufTy).Contents (Elt F))
  :: binary main_v4 main_v48 main_v49 (addi : (⟨S4x2048, .i32⟩ : BufTy).Contents (Elt F) → (⟨S4x2048, .i32⟩ : BufTy).Contents (Elt F) → (⟨S4x2048, .i32⟩ : BufTy).Contents (Elt F))
  :: ternary main_v47 main_v49 main_v4 main_v50 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F))
  :: unary main_v45 main_v51 (broadcastInDim S4x2048 ![0, 1] bcast_S4x1_S4x2048_0_1 : (⟨S4x1, .i32⟩ : BufTy).Contents (Elt F) → (⟨S4x2048, .i32⟩ : BufTy).Contents (Elt F))
  :: unary main_v51 main_v52 (broadcastInDim S4x2048x1 ![0, 1] bcast_S4x2048_S4x2048x1_0_1 : (⟨S4x2048, .i32⟩ : BufTy).Contents (Elt F) → (⟨S4x2048x1, .i32⟩ : BufTy).Contents (Elt F))
  :: unary main_v50 main_v53 (broadcastInDim S4x2048x1 ![0, 1] bcast_S4x2048_S4x2048x1_0_1 : (⟨S4x2048, .i32⟩ : BufTy).Contents (Elt F) → (⟨S4x2048x1, .i32⟩ : BufTy).Contents (Elt F))
  :: binary main_v52 main_v53 main_v54 ((fun a b => concatenate S4x2048x2 2 [⟨S4x2048x1, a⟩, ⟨S4x2048x1, b⟩] concatenates_S4x2048x1_S4x2048x1_S4x2048x2_d2) : (⟨S4x2048x1, .i32⟩ : BufTy).Contents (Elt F) → (⟨S4x2048x1, .i32⟩ : BufTy).Contents (Elt F) → (⟨S4x2048x2, .i32⟩ : BufTy).Contents (Elt F))
  :: binary main_arg2 main_v54 main_v55 ((fun x i => Host.gather gather_S4x8192x3_S4x2048x2_S4x2048x3_2_01_n_n_01_2_113 x i) : (⟨S4x8192x3, .f32⟩ : BufTy).Contents (Elt F) → (⟨S4x2048x2, .i32⟩ : BufTy).Contents (Elt F) → (⟨S4x2048x3, .f32⟩ : BufTy).Contents (Elt F))
  :: binary main_v21 main_v21 main_v56 (mulf : (⟨S4x2048x3, .f32⟩ : BufTy).Contents (Elt F) → (⟨S4x2048x3, .f32⟩ : BufTy).Contents (Elt F) → (⟨S4x2048x3, .f32⟩ : BufTy).Contents (Elt F))
  :: nullary main_cst_14 (constant S_ .f32 0x00000000#32)
  :: binary main_v56 main_cst_14 main_v57 ((fun x v => Host.reduceAdd x v reducesTo_S4x2048x3_S4x2048_d2 h_S_) : (⟨S4x2048x3, .f32⟩ : BufTy).Contents (Elt F) → (⟨S_, .f32⟩ : BufTy).Contents (Elt F) → (⟨S4x2048, .f32⟩ : BufTy).Contents (Elt F))
  :: unary main_v57 main_v58 (broadcastInDim S4x2048x1 ![0, 1] bcast_S4x2048_S4x2048x1_0_1 : (⟨S4x2048, .f32⟩ : BufTy).Contents (Elt F) → (⟨S4x2048x1, .f32⟩ : BufTy).Contents (Elt F))
  :: binary main_v21 main_arg0 main_v59 ((fun l r => Host.dotGeneral dot_S4x2048x3_S4x8192x3_S4x2048x8192_2_2_1_1_0_0 none l r) : (⟨S4x2048x3, .f32⟩ : BufTy).Contents (Elt F) → (⟨S4x8192x3, .f32⟩ : BufTy).Contents (Elt F) → (⟨S4x2048x8192, .f32⟩ : BufTy).Contents (Elt F))
  :: nullary main_cst_15 (constant S_ .f32 0x40000000#32)
  :: unary main_cst_15 main_v60 (broadcastInDim S4x2048x8192 ![] bcast_S_S4x2048x8192 : (⟨S_, .f32⟩ : BufTy).Contents (Elt F) → (⟨S4x2048x8192, .f32⟩ : BufTy).Contents (Elt F))
  :: binary main_v60 main_v59 main_v61 (mulf : (⟨S4x2048x8192, .f32⟩ : BufTy).Contents (Elt F) → (⟨S4x2048x8192, .f32⟩ : BufTy).Contents (Elt F) → (⟨S4x2048x8192, .f32⟩ : BufTy).Contents (Elt F))
  :: unary main_v58 main_v62 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F))
  :: binary main_v62 main_v61 main_v63 (subf : (⟨S4x2048x8192, .f32⟩ : BufTy).Contents (Elt F) → (⟨S4x2048x8192, .f32⟩ : BufTy).Contents (Elt F) → (⟨S4x2048x8192, .f32⟩ : BufTy).Contents (Elt F))
  :: binary main_arg0 main_arg0 main_v64 (mulf : (⟨S4x8192x3, .f32⟩ : BufTy).Contents (Elt F) → (⟨S4x8192x3, .f32⟩ : BufTy).Contents (Elt F) → (⟨S4x8192x3, .f32⟩ : BufTy).Contents (Elt F))
  :: nullary main_cst_16 (constant S_ .f32 0x00000000#32)
  :: binary main_v64 main_cst_16 main_v65 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F))
  :: unary main_v65 main_v66 (broadcastInDim S4x1x8192 ![0, 2] bcast_S4x8192_S4x1x8192_0_2 : (⟨S4x8192, .f32⟩ : BufTy).Contents (Elt F) → (⟨S4x1x8192, .f32⟩ : BufTy).Contents (Elt F))
  :: unary main_v66 main_v67 (broadcastInDim S4x2048x8192 ![0, 1, 2] bcast_S4x1x8192_S4x2048x8192_0_1_2 : (⟨S4x1x8192, .f32⟩ : BufTy).Contents (Elt F) → (⟨S4x2048x8192, .f32⟩ : BufTy).Contents (Elt F))
  :: binary main_v63 main_v67 main_v68 (addf : (⟨S4x2048x8192, .f32⟩ : BufTy).Contents (Elt F) → (⟨S4x2048x8192, .f32⟩ : BufTy).Contents (Elt F) → (⟨S4x2048x8192, .f32⟩ : BufTy).Contents (Elt F))
  :: unary main_v68 main_v69 (Host.negf : (⟨S4x2048x8192, .f32⟩ : BufTy).Contents (Elt F) → (⟨S4x2048x8192, .f32⟩ : BufTy).Contents (Elt F))
  :: unary main_v69 main_values ((fun x => (Host.topK S4x2048x24 2 (FloatOps.cmpfTotal .gt) x sliceFits_S4x2048x8192_S4x2048x24).1) : (⟨S4x2048x8192, .f32⟩ : BufTy).Contents (Elt F) → (⟨S4x2048x24, .f32⟩ : BufTy).Contents (Elt F))
  :: unary main_v69 main_indices ((fun x => (Host.topK S4x2048x24 2 (FloatOps.cmpfTotal .gt) x sliceFits_S4x2048x8192_S4x2048x24).2) : (⟨S4x2048x8192, .f32⟩ : BufTy).Contents (Elt F) → (⟨S4x2048x24, .i32⟩ : BufTy).Contents (Elt F))
  :: nullary main_v70 (iotaInDim S4 32 0)
  :: reshape main_v70 main_v71 (rfl : (.i32 : EltTy) = .i32) shapeCasts_S4_S4x1x1
  :: nullary main_c_17 (constantI S_ 32 0#32)
  :: unary main_c_17 main_v72 (broadcastInDim S4x1x1 ![] bcast_S_S4x1x1 : (⟨S_, .i32⟩ : BufTy).Contents (Elt F) → (⟨S4x1x1, .i32⟩ : BufTy).Contents (Elt F))
  :: binary main_v71 main_v72 main_v73 (cmpi .slt : (⟨S4x1x1, .i32⟩ : BufTy).Contents (Elt F) → (⟨S4x1x1, .i32⟩ : BufTy).Contents (Elt F) → (⟨S4x1x1, .i1⟩ : BufTy).Contents (Elt F))
  :: nullary main_c_18 (constantI S_ 32 4#32)
  :: unary main_c_18 main_v74 (broadcastInDim S4x1x1 ![] bcast_S_S4x1x1 : (⟨S_, .i32⟩ : BufTy).Contents (Elt F) → (⟨S4x1x1, .i32⟩ : BufTy).Contents (Elt F))
  :: binary main_v71 main_v74 main_v75 (addi : (⟨S4x1x1, .i32⟩ : BufTy).Contents (Elt F) → (⟨S4x1x1, .i32⟩ : BufTy).Contents (Elt F) → (⟨S4x1x1, .i32⟩ : BufTy).Contents (Elt F))
  :: ternary main_v73 main_v75 main_v71 main_v76 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F))
  :: nullary main_c_19 (constantI S_ 32 0#32)
  :: unary main_c_19 main_v77 (broadcastInDim S4x2048x24 ![] bcast_S_S4x2048x24 : (⟨S_, .i32⟩ : BufTy).Contents (Elt F) → (⟨S4x2048x24, .i32⟩ : BufTy).Contents (Elt F))
  :: binary main_indices main_v77 main_v78 (cmpi .slt : (⟨S4x2048x24, .i32⟩ : BufTy).Contents (Elt F) → (⟨S4x2048x24, .i32⟩ : BufTy).Contents (Elt F) → (⟨S4x2048x24, .i1⟩ : BufTy).Contents (Elt F))
  :: nullary main_c_20 (constantI S_ 32 8192#32)
  :: unary main_c_20 main_v79 (broadcastInDim S4x2048x24 ![] bcast_S_S4x2048x24 : (⟨S_, .i32⟩ : BufTy).Contents (Elt F) → (⟨S4x2048x24, .i32⟩ : BufTy).Contents (Elt F))
  :: binary main_indices main_v79 main_v80 (addi : (⟨S4x2048x24, .i32⟩ : BufTy).Contents (Elt F) → (⟨S4x2048x24, .i32⟩ : BufTy).Contents (Elt F) → (⟨S4x2048x24, .i32⟩ : BufTy).Contents (Elt F))
  :: ternary main_v78 main_v80 main_indices main_v81 (select : (⟨S4x2048x24, .i1⟩ : BufTy).Contents (Elt F) → (⟨S4x2048x24, .i32⟩ : BufTy).Contents (Elt F) → (⟨S4x2048x24, .i32⟩ : BufTy).Contents (Elt F) → (⟨S4x2048x24, .i32⟩ : BufTy).Contents (Elt F))
  :: unary main_v76 main_v82 (broadcastInDim S4x2048x24 ![0, 1, 2] bcast_S4x1x1_S4x2048x24_0_1_2 : (⟨S4x1x1, .i32⟩ : BufTy).Contents (Elt F) → (⟨S4x2048x24, .i32⟩ : BufTy).Contents (Elt F))
  :: unary main_v82 main_v83 (broadcastInDim S4x2048x24x1 ![0, 1, 2] bcast_S4x2048x24_S4x2048x24x1_0_1_2 : (⟨S4x2048x24, .i32⟩ : BufTy).Contents (Elt F) → (⟨S4x2048x24x1, .i32⟩ : BufTy).Contents (Elt F))
  :: unary main_v81 main_v84 (broadcastInDim S4x2048x24x1 ![0, 1, 2] bcast_S4x2048x24_S4x2048x24x1_0_1_2 : (⟨S4x2048x24, .i32⟩ : BufTy).Contents (Elt F) → (⟨S4x2048x24x1, .i32⟩ : BufTy).Contents (Elt F))
  :: binary main_v83 main_v84 main_v85 ((fun a b => concatenate S4x2048x24x2 3 [⟨S4x2048x24x1, a⟩, ⟨S4x2048x24x1, b⟩] concatenates_S4x2048x24x1_S4x2048x24x1_S4x2048x24x2_d3) : (⟨S4x2048x24x1, .i32⟩ : BufTy).Contents (Elt F) → (⟨S4x2048x24x1, .i32⟩ : BufTy).Contents (Elt F) → (⟨S4x2048x24x2, .i32⟩ : BufTy).Contents (Elt F))
  :: binary main_arg0 main_v85 main_v86 ((fun x i => Host.gather gather_S4x8192x3_S4x2048x24x2_S4x2048x24x3_3_01_n_n_01_3_113 x i) : (⟨S4x8192x3, .f32⟩ : BufTy).Contents (Elt F) → (⟨S4x2048x24x2, .i32⟩ : BufTy).Contents (Elt F) → (⟨S4x2048x24x3, .f32⟩ : BufTy).Contents (Elt F))
  :: nullary main_v87 (iotaInDim S4 32 0)
  :: reshape main_v87 main_v88 (rfl : (.i32 : EltTy) = .i32) shapeCasts_S4_S4x1x1
  :: nullary main_c_21 (constantI S_ 32 0#32)
  :: [] )

set_option maxHeartbeats 4000000 in
/-- The operations after the loop, last part. -/
abbrev postC : List (HloOp τ sig (Elt F)) :=
  ( unary main_c_21 main_v89 (broadcastInDim S4x1x1 ![] bcast_S_S4x1x1 : (⟨S_, .i32⟩ : BufTy).Contents (Elt F) → (⟨S4x1x1, .i32⟩ : BufTy).Contents (Elt F))
  :: binary main_v88 main_v89 main_v90 (cmpi .slt : (⟨S4x1x1, .i32⟩ : BufTy).Contents (Elt F) → (⟨S4x1x1, .i32⟩ : BufTy).Contents (Elt F) → (⟨S4x1x1, .i1⟩ : BufTy).Contents (Elt F))
  :: nullary main_c_22 (constantI S_ 32 4#32)
  :: unary main_c_22 main_v91 (broadcastInDim S4x1x1 ![] bcast_S_S4x1x1 : (⟨S_, .i32⟩ : BufTy).Contents (Elt F) → (⟨S4x1x1, .i32⟩ : BufTy).Contents (Elt F))
  :: binary main_v88 main_v91 main_v92 (addi : (⟨S4x1x1, .i32⟩ : BufTy).Contents (Elt F) → (⟨S4x1x1, .i32⟩ : BufTy).Contents (Elt F) → (⟨S4x1x1, .i32⟩ : BufTy).Contents (Elt F))
  :: ternary main_v90 main_v92 main_v88 main_v93 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F))
  :: nullary main_c_23 (constantI S_ 32 0#32)
  :: unary main_c_23 main_v94 (broadcastInDim S4x2048x24 ![] bcast_S_S4x2048x24 : (⟨S_, .i32⟩ : BufTy).Contents (Elt F) → (⟨S4x2048x24, .i32⟩ : BufTy).Contents (Elt F))
  :: binary main_indices main_v94 main_v95 (cmpi .slt : (⟨S4x2048x24, .i32⟩ : BufTy).Contents (Elt F) → (⟨S4x2048x24, .i32⟩ : BufTy).Contents (Elt F) → (⟨S4x2048x24, .i1⟩ : BufTy).Contents (Elt F))
  :: nullary main_c_24 (constantI S_ 32 8192#32)
  :: unary main_c_24 main_v96 (broadcastInDim S4x2048x24 ![] bcast_S_S4x2048x24 : (⟨S_, .i32⟩ : BufTy).Contents (Elt F) → (⟨S4x2048x24, .i32⟩ : BufTy).Contents (Elt F))
  :: binary main_indices main_v96 main_v97 (addi : (⟨S4x2048x24, .i32⟩ : BufTy).Contents (Elt F) → (⟨S4x2048x24, .i32⟩ : BufTy).Contents (Elt F) → (⟨S4x2048x24, .i32⟩ : BufTy).Contents (Elt F))
  :: ternary main_v95 main_v97 main_indices main_v98 (select : (⟨S4x2048x24, .i1⟩ : BufTy).Contents (Elt F) → (⟨S4x2048x24, .i32⟩ : BufTy).Contents (Elt F) → (⟨S4x2048x24, .i32⟩ : BufTy).Contents (Elt F) → (⟨S4x2048x24, .i32⟩ : BufTy).Contents (Elt F))
  :: unary main_v93 main_v99 (broadcastInDim S4x2048x24 ![0, 1, 2] bcast_S4x1x1_S4x2048x24_0_1_2 : (⟨S4x1x1, .i32⟩ : BufTy).Contents (Elt F) → (⟨S4x2048x24, .i32⟩ : BufTy).Contents (Elt F))
  :: unary main_v99 main_v100 (broadcastInDim S4x2048x24x1 ![0, 1, 2] bcast_S4x2048x24_S4x2048x24x1_0_1_2 : (⟨S4x2048x24, .i32⟩ : BufTy).Contents (Elt F) → (⟨S4x2048x24x1, .i32⟩ : BufTy).Contents (Elt F))
  :: unary main_v98 main_v101 (broadcastInDim S4x2048x24x1 ![0, 1, 2] bcast_S4x2048x24_S4x2048x24x1_0_1_2 : (⟨S4x2048x24, .i32⟩ : BufTy).Contents (Elt F) → (⟨S4x2048x24x1, .i32⟩ : BufTy).Contents (Elt F))
  :: binary main_v100 main_v101 main_v102 ((fun a b => concatenate S4x2048x24x2 3 [⟨S4x2048x24x1, a⟩, ⟨S4x2048x24x1, b⟩] concatenates_S4x2048x24x1_S4x2048x24x1_S4x2048x24x2_d3) : (⟨S4x2048x24x1, .i32⟩ : BufTy).Contents (Elt F) → (⟨S4x2048x24x1, .i32⟩ : BufTy).Contents (Elt F) → (⟨S4x2048x24x2, .i32⟩ : BufTy).Contents (Elt F))
  :: binary main_arg1 main_v102 main_v103 ((fun x i => Host.gather gather_S4x8192x128_S4x2048x24x2_S4x2048x24x128_3_01_n_n_01_3_11128 x i) : (⟨S4x8192x128, .f32⟩ : BufTy).Contents (Elt F) → (⟨S4x2048x24x2, .i32⟩ : BufTy).Contents (Elt F) → (⟨S4x2048x24x128, .f32⟩ : BufTy).Contents (Elt F))
  :: nullary main_v104 (iotaInDim S4 32 0)
  :: reshape main_v104 main_v105 (rfl : (.i32 : EltTy) = .i32) shapeCasts_S4_S4x1x1
  :: nullary main_c_25 (constantI S_ 32 0#32)
  :: unary main_c_25 main_v106 (broadcastInDim S4x1x1 ![] bcast_S_S4x1x1 : (⟨S_, .i32⟩ : BufTy).Contents (Elt F) → (⟨S4x1x1, .i32⟩ : BufTy).Contents (Elt F))
  :: binary main_v105 main_v106 main_v107 (cmpi .slt : (⟨S4x1x1, .i32⟩ : BufTy).Contents (Elt F) → (⟨S4x1x1, .i32⟩ : BufTy).Contents (Elt F) → (⟨S4x1x1, .i1⟩ : BufTy).Contents (Elt F))
  :: nullary main_c_26 (constantI S_ 32 4#32)
  :: unary main_c_26 main_v108 (broadcastInDim S4x1x1 ![] bcast_S_S4x1x1 : (⟨S_, .i32⟩ : BufTy).Contents (Elt F) → (⟨S4x1x1, .i32⟩ : BufTy).Contents (Elt F))
  :: binary main_v105 main_v108 main_v109 (addi : (⟨S4x1x1, .i32⟩ : BufTy).Contents (Elt F) → (⟨S4x1x1, .i32⟩ : BufTy).Contents (Elt F) → (⟨S4x1x1, .i32⟩ : BufTy).Contents (Elt F))
  :: ternary main_v107 main_v109 main_v105 main_v110 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F))
  :: nullary main_c_27 (constantI S_ 32 0#32)
  :: unary main_c_27 main_v111 (broadcastInDim S4x2048x24 ![] bcast_S_S4x2048x24 : (⟨S_, .i32⟩ : BufTy).Contents (Elt F) → (⟨S4x2048x24, .i32⟩ : BufTy).Contents (Elt F))
  :: binary main_indices main_v111 main_v112 (cmpi .slt : (⟨S4x2048x24, .i32⟩ : BufTy).Contents (Elt F) → (⟨S4x2048x24, .i32⟩ : BufTy).Contents (Elt F) → (⟨S4x2048x24, .i1⟩ : BufTy).Contents (Elt F))
  :: nullary main_c_28 (constantI S_ 32 8192#32)
  :: unary main_c_28 main_v113 (broadcastInDim S4x2048x24 ![] bcast_S_S4x2048x24 : (⟨S_, .i32⟩ : BufTy).Contents (Elt F) → (⟨S4x2048x24, .i32⟩ : BufTy).Contents (Elt F))
  :: binary main_indices main_v113 main_v114 (addi : (⟨S4x2048x24, .i32⟩ : BufTy).Contents (Elt F) → (⟨S4x2048x24, .i32⟩ : BufTy).Contents (Elt F) → (⟨S4x2048x24, .i32⟩ : BufTy).Contents (Elt F))
  :: ternary main_v112 main_v114 main_indices main_v115 (select : (⟨S4x2048x24, .i1⟩ : BufTy).Contents (Elt F) → (⟨S4x2048x24, .i32⟩ : BufTy).Contents (Elt F) → (⟨S4x2048x24, .i32⟩ : BufTy).Contents (Elt F) → (⟨S4x2048x24, .i32⟩ : BufTy).Contents (Elt F))
  :: unary main_v110 main_v116 (broadcastInDim S4x2048x24 ![0, 1, 2] bcast_S4x1x1_S4x2048x24_0_1_2 : (⟨S4x1x1, .i32⟩ : BufTy).Contents (Elt F) → (⟨S4x2048x24, .i32⟩ : BufTy).Contents (Elt F))
  :: unary main_v116 main_v117 (broadcastInDim S4x2048x24x1 ![0, 1, 2] bcast_S4x2048x24_S4x2048x24x1_0_1_2 : (⟨S4x2048x24, .i32⟩ : BufTy).Contents (Elt F) → (⟨S4x2048x24x1, .i32⟩ : BufTy).Contents (Elt F))
  :: unary main_v115 main_v118 (broadcastInDim S4x2048x24x1 ![0, 1, 2] bcast_S4x2048x24_S4x2048x24x1_0_1_2 : (⟨S4x2048x24, .i32⟩ : BufTy).Contents (Elt F) → (⟨S4x2048x24x1, .i32⟩ : BufTy).Contents (Elt F))
  :: binary main_v117 main_v118 main_v119 ((fun a b => concatenate S4x2048x24x2 3 [⟨S4x2048x24x1, a⟩, ⟨S4x2048x24x1, b⟩] concatenates_S4x2048x24x1_S4x2048x24x1_S4x2048x24x2_d3) : (⟨S4x2048x24x1, .i32⟩ : BufTy).Contents (Elt F) → (⟨S4x2048x24x1, .i32⟩ : BufTy).Contents (Elt F) → (⟨S4x2048x24x2, .i32⟩ : BufTy).Contents (Elt F))
  :: binary main_arg2 main_v119 main_v120 ((fun x i => Host.gather gather_S4x8192x3_S4x2048x24x2_S4x2048x24x3_3_01_n_n_01_3_113 x i) : (⟨S4x8192x3, .f32⟩ : BufTy).Contents (Elt F) → (⟨S4x2048x24x2, .i32⟩ : BufTy).Contents (Elt F) → (⟨S4x2048x24x3, .f32⟩ : BufTy).Contents (Elt F))
  :: [] )

/-- The loop's test: the counter against 2048. -/
abbrev testOps : List (HloOp τ sig (Elt F)) :=
  [ nullary main_while0c_c_33 (constantI S_ 32 2048#32),
    binary main_v3_1 main_while0c_c_33 main_while0c_v121 (cmpi .slt) ]

/-- The stretches before the loop, of one trip, and after the loop. -/
abbrev preI : List (List (HloOp τ sig (Elt F))) := [preOps]
abbrev bodyI : List (List (HloOp τ sig (Elt F))) := [tripDist, tripFar, tripRow, tripEnd]
abbrev postI : List (List (HloOp τ sig (Elt F))) := [postA, postB, postC]

/-! ## The program is these operations -/

theorem part0_eq (c : Dev nD) : main_part0 (F := F) c = (Pipeline.chainK [seq preOps, HostLoop.enter 0] (seq postA) : HostProg F) := by
  rewrite [chainK_seq_cons, Pipeline.chainK_cons]
  chain_rfl

theorem part1_eq (c : Dev nD) : main_part1 (F := F) c = (Pipeline.chainK [] (seq postB) : HostProg F) := by
  chain_rfl

theorem part2_eq (c : Dev nD) : main_part2 (F := F) c = (Pipeline.chain [seq postC] : HostProg F) := by
  rewrite [chain_seq_cons]
  chain_rfl

/-- The main function is the stretches of operations with the loop between them. -/
theorem main_eq (c : Dev nD) :
    main (F := F) c = (Pipeline.chain [seq preOps, HostLoop.enter 0, seq postA, seq postB, seq postC] : HostProg F) := by
  show (main_part0 (F := F) c >>= fun _ => main_part1 (F := F) c >>= fun _ => main_part2 (F := F) c) = _
  rewrite [part2_eq, part1_eq, Pipeline.chainK_bind_chain, part0_eq, Pipeline.chainK_bind_chain]
  chain_rfl

/-- One trip's program is its four stretches. -/
theorem body_eq : main_while0_body (F := F) = (Pipeline.chain [seq tripDist, seq tripFar, seq tripRow, seq tripEnd] : HostProg F) := by
  rewrite [chain_seq_cons, Pipeline.chain_cons, Pipeline.chain_cons, chain_seq_cons]
  chain_rfl

/-! ## What each stretch touches -/

theorem pre_sub : (preOps : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩

theorem tripDist_sub : (tripDist : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., binary_bufs_sub .., nullary_bufs_sub .., binary_bufs_sub .., binary_bufs_sub ..⟩

theorem tripFar_sub : (tripFar : List (HloOp τ sig (Elt F))).Forall fun op => op.bufs ⊆ tcRefs τ sig :=
  ⟨nullary_bufs_sub .., nullary_bufs_sub .., nullary_bufs_sub .., quaternary_bufs_sub .., quaternary_bufs_sub ..⟩

theorem tripRow_sub : (tripRow : List (HloOp τ sig (Elt F))).Forall fun op => op.bufs ⊆ tcRefs τ sig :=
  ⟨unary_bufs_sub .., nullary_bufs_sub .., binaryIndexed_bufs_sub ..⟩

theorem tripEnd_sub : (tripEnd : List (HloOp τ sig (Elt F))).Forall fun op => op.bufs ⊆ tcRefs τ sig :=
  ⟨nullary_bufs_sub .., binary_bufs_sub .., unary_bufs_sub .., unary_bufs_sub .., unary_bufs_sub .., unary_bufs_sub ..⟩

theorem postA_sub : (postA : List (HloOp τ sig (Elt F))).Forall fun op => op.bufs ⊆ tcRefs τ sig :=
  ⟨unary_bufs_sub .., nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., reshape_bufs_sub .., nullary_bufs_sub .., unary_bufs_sub ..⟩

theorem postB_sub : (postB : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., unary_bufs_sub .., unary_bufs_sub .., unary_bufs_sub .., nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., reshape_bufs_sub .., nullary_bufs_sub ..⟩

theorem postC_sub : (postC : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub ..⟩

theorem pre_plain : Plain (preI (F := F)) := .cons pre_sub .nil
theorem body_plain : Plain (bodyI (F := F)) :=
  .cons tripDist_sub (.cons tripFar_sub (.cons tripRow_sub (.cons tripEnd_sub .nil)))
theorem post_plain : Plain (postI (F := F)) := .cons postA_sub (.cons postB_sub (.cons postC_sub .nil))

variable (m : (ℓ : Loc nD τ sig) → Buf (Elt F) ℓ) (ρ : Dev nD → PrngReg)

/-- Every array's contents before the test is run for the `k`-th time, counted from 0. -/
abbrev atK (k : ℕ) (c : Dev nD) : Valuation τ sig (Elt F) := atTrip testOps bodyI (entryContents preI m) k c

/-! ## The counter -/

set_option maxRecDepth 100000 in
/-- One trip adds one to the counter. -/
theorem ctr_trip (V : Valuation τ sig (Elt F)) : afterL bodyI (after testOps V) (Proc.devRef .tc main_v3_1)
    = addi (V (Proc.devRef .tc main_v3_1)) (constantI S_ 32 1#32) := by
  simp only [bodyI, afterL_cons, afterL_nil]
  after_reads_simp
  rfl

/-- The counter starts at 0. -/
theorem ctr_entry (c : Dev nD) : entryContents preI m c (Proc.devRef .tc main_v3_1) = fun _ => (0#32 : BitVec 32) := by
  simp only [entryContents, preI, afterL_cons, afterL_nil]
  after_reads_simp
  rfl

/-- Before the `k`-th test the counter is `k`. -/
theorem atK_ctr (c : Dev nD) : ∀ k, atK m k c (Proc.devRef .tc main_v3_1) = fun _ => Scf.iv 0#32 1#32 k
  | 0 => by rw [show atK m 0 c = entryContents preI m c from rfl, ctr_entry, Scf.iv_zero]
  | k + 1 => by
    rw [show atK m (k + 1) c = afterL bodyI (after testOps (atK m k c)) from rfl, ctr_trip, atK_ctr c k, Scf.iv_succ]
    rfl

-- the rules below are stated for any thread; applying them at this one unfolds definitions in a goal's type
set_option backward.isDefEq.respectTransparency.types false in
/-- The test answers 1 exactly while fewer than 2048 trips have run. -/
theorem test_spec : CondSpec (pcfgs (F := F)) defs₀ loops (main_while0_cond (F := F)) testOps bodyI (entryContents preI m) 2048 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v3_1 HostLoop.idx0)
        (HloOp.result _ (atK m k c) main_while0c_c_33 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

set_option maxRecDepth 100000 in
/-- From any memory whose counters read zero, for any float values: every fair execution of the main function ends,
    with every array at what the operations make of it in order. -/
theorem run_all : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents testOps preI bodyI postI 2048 m c (Proc.devRef .tc b)) :=
  run_loop (pcfgs (F := F)) defs₀ loops main 0 main_while0_cond main_while0_body rfl preI bodyI postI testOps pre_plain body_plain post_plain
    (fun c => by rw [main_eq]; rfl) (by rw [body_eq]; rfl) 2048 m ρ (test_spec m)

end Cert.ReferenceIdeal.Run

end

end
-- ==== Proof.RefValues.lean ====
/- What the reference program's arrays hold at the end of a run, as functions of its three arguments: the loop's carried
   values trip by trip, and the six results from the index array the loop leaves. -/
module

public import proofs.«01_k».proof.Proof.RefRun

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

/-! ## One trip, as functions of the carried values -/

/-- An index below zero counted from the end of a row of `n` entries. -/
def wrapped (n : BitVec 32) (i : IVec S4 32) : IVec S4 32 :=
  select (cmpi .slt i (broadcastInDim S4 ![] bcast_S_S4 (constantI S_ 32 0#32)))
    (addi i (broadcastInDim S4 ![] bcast_S_S4 (constantI S_ 32 n))) i

/-- The row number and the chosen index, side by side. -/
def rowAndIndex (far : IVec S4 32) : IVec S4x2 32 :=
  concatenate S4x2 1 [⟨S4x1, broadcastInDim S4x1 ![0] bcast_S4_S4x1_0 (wrapped 4#32 (iotaInDim S4 32 0))⟩,
    ⟨S4x1, broadcastInDim S4x1 ![0] bcast_S4_S4x1_0 (wrapped 8192#32 far)⟩] concatenates_S4x1_S4x1_S4x2_d1

/-- The chosen point of each row. -/
def chosen (x : FVec F S4x8192x3 .f32) (far : IVec S4 32) : FVec F S4x3 .f32 :=
  Host.gather gather_S4x8192x3_S4x2_S4x3_1_01_n_n_01_1_113 x (rowAndIndex far)

/-- Each point less the chosen point of its row. -/
def offsets (x : FVec F S4x8192x3 .f32) (far : IVec S4 32) : FVec F S4x8192x3 .f32 :=
  subf x (broadcastInDim S4x8192x3 ![0, 1, 2] bcast_S4x1x3_S4x8192x3_0_1_2
    (broadcastInDim S4x1x3 ![0, 2] bcast_S4x3_S4x1x3_0_2 (chosen x far)))

/-- The distances after a trip: the lesser of those before it and the squared distance from the chosen point. -/
def nextDist (x : FVec F S4x8192x3 .f32) (dist : FVec F S4x8192 .f32) (far : IVec S4 32) : FVec F S4x8192 .f32 :=
  minimumf dist (Host.reduceAdd (mulf (offsets x far) (offsets x far)) (constant S_ .f32 0x00000000#32) reducesTo_S4x8192x3_S4x8192_d2 h_S_)

/-- The index chosen after a trip: where each row's distances are greatest. -/
def nextFar (dist : FVec F S4x8192 .f32) : IVec S4 32 := fun j =>
  (Host.argReduce reducer_argmax_f32_i32 dist (iotaInDim S4x8192 32 1) (constant S_ .f32 0xFF800000#32) (constantI S_ 32 0#32)
    reducesTo_S4x8192_S4_d1 h_S_ j).2

/-- The index array after a trip: the chosen indices stored in the trip's row. -/
def nextRows (rows : IVec S2048x4 32) (far : IVec S4 32) (k : IVec S_ 32) : IVec S2048x4 32 :=
  Host.dynamicUpdateSlice rows (broadcastInDim S1x4 ![1] bcast_S4_S1x4_1 far)
    (fun a => ((![k, constantI S_ 32 0#32] : Fin 2 → IVec S_ 32) a (Shape.Idx.first h_S_)).toInt) updateFits_S2048x4_S1x4

/-- The carried distances, chosen indices and index array before trip `k`. -/
def carried (x : FVec F S4x8192x3 .f32) : ℕ → FVec F S4x8192 .f32 × IVec S4 32 × IVec S2048x4 32
  | 0 => (broadcastInDim S4x8192 ![] bcast_S_S4x8192 (constant S_ .f32 0x501502F9#32),
      broadcastInDim S4 ![] bcast_S_S4 (constantI S_ 32 0#32), broadcastInDim S2048x4 ![] bcast_S_S2048x4 (constantI S_ 32 0#32))
  | k + 1 => (nextDist x (carried x k).1 (carried x k).2.1, nextFar (nextDist x (carried x k).1 (carried x k).2.1),
      nextRows (carried x k).2.2 (carried x k).2.1 (fun _ => Scf.iv 0#32 1#32 k))

theorem carried_succ (x : FVec F S4x8192x3 .f32) (k : ℕ) : carried x (k + 1)
    = (nextDist x (carried x k).1 (carried x k).2.1, nextFar (nextDist x (carried x k).1 (carried x k).2.1),
      nextRows (carried x k).2.2 (carried x k).2.1 (fun _ => Scf.iv 0#32 1#32 k)) := rfl

/-! ## The results, as functions of the arguments and the index array -/

/-- The index array with a row per batch. -/
def picks (rows : IVec S2048x4 32) : IVec S4x2048 32 := transpose S4x2048 [1, 0] rows transposes_S2048x4_S4x2048_1_0

/-- The batch number and a picked index, side by side. -/
def batchAndPick (i : IVec S4x2048 32) : IVec S4x2048x2 32 :=
  let b : IVec S4x1 32 := shapeCast S4x1 (iotaInDim S4 32 0) shapeCasts_S4_S4x1
  concatenate S4x2048x2 2
    [⟨S4x2048x1, broadcastInDim S4x2048x1 ![0, 1] bcast_S4x2048_S4x2048x1_0_1 (broadcastInDim S4x2048 ![0, 1] bcast_S4x1_S4x2048_0_1
        (select (cmpi .slt b (broadcastInDim S4x1 ![] bcast_S_S4x1 (constantI S_ 32 0#32)))
          (addi b (broadcastInDim S4x1 ![] bcast_S_S4x1 (constantI S_ 32 4#32))) b))⟩,
      ⟨S4x2048x1, broadcastInDim S4x2048x1 ![0, 1] bcast_S4x2048_S4x2048x1_0_1
        (select (cmpi .slt i (broadcastInDim S4x2048 ![] bcast_S_S4x2048 (constantI S_ 32 0#32)))
          (addi i (broadcastInDim S4x2048 ![] bcast_S_S4x2048 (constantI S_ 32 8192#32))) i)⟩]
    concatenates_S4x2048x1_S4x2048x1_S4x2048x2_d2

/-- The picked rows of an array with three entries per point. -/
def pick3 (x : FVec F S4x8192x3 .f32) (rows : IVec S2048x4 32) : FVec F S4x2048x3 .f32 :=
  Host.gather gather_S4x8192x3_S4x2048x2_S4x2048x3_2_01_n_n_01_2_113 x (batchAndPick (picks rows))

/-- The picked rows of an array with 128 entries per point. -/
def pick128 (x : FVec F S4x8192x128 .f32) (rows : IVec S2048x4 32) : FVec F S4x2048x128 .f32 :=
  Host.gather gather_S4x8192x128_S4x2048x2_S4x2048x128_2_01_n_n_01_2_11128 x (batchAndPick (picks rows))

/-- The squared distance from each of the points `a` to each of the points `x`. -/
def squareDist (a : FVec F S4x2048x3 .f32) (x : FVec F S4x8192x3 .f32) : FVec F S4x2048x8192 .f32 :=
  addf
    (subf
      (broadcastInDim S4x2048x8192 ![0, 1, 2] bcast_S4x2048x1_S4x2048x8192_0_1_2 (broadcastInDim S4x2048x1 ![0, 1] bcast_S4x2048_S4x2048x1_0_1
        (Host.reduceAdd (mulf a a) (constant S_ .f32 0x00000000#32) reducesTo_S4x2048x3_S4x2048_d2 h_S_)))
      (mulf (broadcastInDim S4x2048x8192 ![] bcast_S_S4x2048x8192 (constant S_ .f32 0x40000000#32))
        (Host.dotGeneral dot_S4x2048x3_S4x8192x3_S4x2048x8192_2_2_1_1_0_0 none a x)))
    (broadcastInDim S4x2048x8192 ![0, 1, 2] bcast_S4x1x8192_S4x2048x8192_0_1_2 (broadcastInDim S4x1x8192 ![0, 2] bcast_S4x8192_S4x1x8192_0_2
      (Host.reduceAdd (mulf x x) (constant S_ .f32 0x00000000#32) reducesTo_S4x8192x3_S4x8192_d2 h_S_)))

/-- The indices of the 24 least distances of each row. -/
def nearest (d : FVec F S4x2048x8192 .f32) : IVec S4x2048x24 32 :=
  (Host.topK S4x2048x24 2 (FloatOps.cmpfTotal .gt) (Host.negf d) sliceFits_S4x2048x8192_S4x2048x24).2

/-- The batch number and a neighbour's index, side by side. -/
def batchAndNear (i : IVec S4x2048x24 32) : IVec S4x2048x24x2 32 :=
  let b : IVec S4x1x1 32 := shapeCast S4x1x1 (iotaInDim S4 32 0) shapeCasts_S4_S4x1x1
  concatenate S4x2048x24x2 3
    [⟨S4x2048x24x1, broadcastInDim S4x2048x24x1 ![0, 1, 2] bcast_S4x2048x24_S4x2048x24x1_0_1_2
        (broadcastInDim S4x2048x24 ![0, 1, 2] bcast_S4x1x1_S4x2048x24_0_1_2
          (select (cmpi .slt b (broadcastInDim S4x1x1 ![] bcast_S_S4x1x1 (constantI S_ 32 0#32)))
            (addi b (broadcastInDim S4x1x1 ![] bcast_S_S4x1x1 (constantI S_ 32 4#32))) b))⟩,
      ⟨S4x2048x24x1, broadcastInDim S4x2048x24x1 ![0, 1, 2] bcast_S4x2048x24_S4x2048x24x1_0_1_2
        (select (cmpi .slt i (broadcastInDim S4x2048x24 ![] bcast_S_S4x2048x24 (constantI S_ 32 0#32)))
          (addi i (broadcastInDim S4x2048x24 ![] bcast_S_S4x2048x24 (constantI S_ 32 8192#32))) i)⟩]
    concatenates_S4x2048x24x1_S4x2048x24x1_S4x2048x24x2_d3

/-- The neighbours' rows of an array with three entries per point, of the distances. -/
def near3 (x : FVec F S4x8192x3 .f32) (d : FVec F S4x2048x8192 .f32) : FVec F S4x2048x24x3 .f32 :=
  Host.gather gather_S4x8192x3_S4x2048x24x2_S4x2048x24x3_3_01_n_n_01_3_113 x (batchAndNear (nearest d))

/-- The neighbours' rows of an array with 128 entries per point, of the distances. -/
def near128 (x : FVec F S4x8192x128 .f32) (d : FVec F S4x2048x8192 .f32) : FVec F S4x2048x24x128 .f32 :=
  Host.gather gather_S4x8192x128_S4x2048x24x2_S4x2048x24x128_3_01_n_n_01_3_11128 x (batchAndNear (nearest d))

/-! ## One trip from any contents -/

section Trip
variable (V : Valuation τ sig (Elt F))

/-- The points are carried unchanged. -/
theorem trip_x : afterL bodyI (after testOps V) (Proc.devRef .tc main_v3_0) = V (Proc.devRef .tc main_v3_0) := by
  simp only [bodyI, afterL_cons, afterL_nil]
  after_reads_simp

theorem trip_dist : afterL bodyI (after testOps V) (Proc.devRef .tc main_v3_2)
    = nextDist (F := F) (V (Proc.devRef .tc main_v3_0)) (V (Proc.devRef .tc main_v3_2)) (V (Proc.devRef .tc main_v3_3)) := by
  simp only [bodyI, afterL_cons, afterL_nil]
  after_reads_simp
  rfl

theorem trip_far : afterL bodyI (after testOps V) (Proc.devRef .tc main_v3_3)
    = nextFar (F := F) (nextDist (V (Proc.devRef .tc main_v3_0)) (V (Proc.devRef .tc main_v3_2)) (V (Proc.devRef .tc main_v3_3))) := by
  simp only [bodyI, afterL_cons, afterL_nil]
  after_reads_simp
  rfl

set_option maxHeartbeats 2000000 in
/-- The array the trip's store leaves. -/
theorem row_rows : after tripRow V (Proc.devRef .tc main_while0b_v143)
    = nextRows (V (Proc.devRef .tc main_v3_4)) (V (Proc.devRef .tc main_v3_3)) (V (Proc.devRef .tc main_v3_1)) := by
  after_results_entrywise [cast_eq]

/-- What the index array holds after a trip. -/
theorem trip_rows : afterL bodyI (after testOps V) (Proc.devRef .tc main_v3_4)
    = nextRows (V (Proc.devRef .tc main_v3_4)) (V (Proc.devRef .tc main_v3_3)) (V (Proc.devRef .tc main_v3_1)) := by
  have h : ∀ W : Valuation τ sig (Elt F), after tripEnd W (Proc.devRef .tc main_v3_4) = W (Proc.devRef .tc main_while0b_v143) := by
    intro W; after_reads_simp; rfl
  have h4 : after tripFar (after tripDist (after testOps V)) (Proc.devRef .tc main_v3_4) = V (Proc.devRef .tc main_v3_4) := by after_reads_simp
  have h3 : after tripFar (after tripDist (after testOps V)) (Proc.devRef .tc main_v3_3) = V (Proc.devRef .tc main_v3_3) := by after_reads_simp
  have h1 : after tripFar (after tripDist (after testOps V)) (Proc.devRef .tc main_v3_1) = V (Proc.devRef .tc main_v3_1) := by after_reads_simp
  simp only [bodyI, afterL_cons, afterL_nil]
  rw [h, row_rows, h4, h3, h1]

theorem trip_arg0 : afterL bodyI (after testOps V) (Proc.devRef .tc main_arg0) = V (Proc.devRef .tc main_arg0) := by
  simp only [bodyI, afterL_cons, afterL_nil]
  after_reads_simp

theorem trip_arg1 : afterL bodyI (after testOps V) (Proc.devRef .tc main_arg1) = V (Proc.devRef .tc main_arg1) := by
  simp only [bodyI, afterL_cons, afterL_nil]
  after_reads_simp

theorem trip_arg2 : afterL bodyI (after testOps V) (Proc.devRef .tc main_arg2) = V (Proc.devRef .tc main_arg2) := by
  simp only [bodyI, afterL_cons, afterL_nil]
  after_reads_simp

end Trip

/-! ## All the trips -/

section Trips
variable (m : (ℓ : Loc nD τ sig) → Buf (Elt F) ℓ) (c : Dev nD)

theorem atK_succ (k : ℕ) : atK m (k + 1) c = afterL bodyI (after testOps (atK m k c)) := rfl

/-- The carried points are the first argument. -/
theorem atK_x : ∀ k, atK m k c (Proc.devRef .tc main_v3_0) = m ((c.tc).loc main_arg0)
  | 0 => by
    rw [show atK m 0 c = entryContents preI m c from rfl]
    simp only [entryContents, preI, afterL_cons, afterL_nil]
    after_reads_simp
    rfl
  | k + 1 => by rw [atK_succ, trip_x, atK_x k]

theorem atK_arg0 : ∀ k, atK m k c (Proc.devRef .tc main_arg0) = m ((c.tc).loc main_arg0)
  | 0 => by
    rw [show atK m 0 c = entryContents preI m c from rfl]
    simp only [entryContents, preI, afterL_cons, afterL_nil]
    after_reads_simp
  | k + 1 => by rw [atK_succ, trip_arg0, atK_arg0 k]

theorem atK_arg1 : ∀ k, atK m k c (Proc.devRef .tc main_arg1) = m ((c.tc).loc main_arg1)
  | 0 => by
    rw [show atK m 0 c = entryContents preI m c from rfl]
    simp only [entryContents, preI, afterL_cons, afterL_nil]
    after_reads_simp
  | k + 1 => by rw [atK_succ, trip_arg1, atK_arg1 k]

theorem atK_arg2 : ∀ k, atK m k c (Proc.devRef .tc main_arg2) = m ((c.tc).loc main_arg2)
  | 0 => by
    rw [show atK m 0 c = entryContents preI m c from rfl]
    simp only [entryContents, preI, afterL_cons, afterL_nil]
    after_reads_simp
  | k + 1 => by rw [atK_succ, trip_arg2, atK_arg2 k]

/-- The distances, the chosen indices and the index array before trip `k`. -/
theorem atK_carried : ∀ k,
    atK m k c (Proc.devRef .tc main_v3_2) = (carried (F := F) (m ((c.tc).loc main_arg0)) k).1
    ∧ atK m k c (Proc.devRef .tc main_v3_3) = (carried (F := F) (m ((c.tc).loc main_arg0)) k).2.1
    ∧ atK m k c (Proc.devRef .tc main_v3_4) = (carried (F := F) (m ((c.tc).loc main_arg0)) k).2.2
  | 0 => by
    rw [show atK m 0 c = entryContents preI m c from rfl]
    simp only [entryContents, preI, afterL_cons, afterL_nil]
    refine ⟨?_, ?_, ?_⟩ <;> (after_reads_simp; rfl)
  | k + 1 => by
    obtain ⟨h2, h3, h4⟩ := atK_carried k
    rw [atK_succ]
    refine ⟨?_, ?_, ?_⟩
    · rw [trip_dist, atK_x, h2, h3, carried_succ]
    · rw [trip_far, atK_x, h2, h3, carried_succ]
    · rw [trip_rows, h3, h4, carried_succ]; exact congrArg (nextRows _ _) (atK_ctr m c k)

end Trips

/-! ## After the loop -/

section Post
variable (V : Valuation τ sig (Elt F))

/-- The operations after the loop leave argument 0. -/
theorem post_arg0 : afterL postI (after testOps V) (Proc.devRef .tc main_arg0) = V (Proc.devRef .tc main_arg0) := by
  simp only [postI, afterL_cons, afterL_nil]
  after_reads_simp

/-- The operations after the loop leave argument 1. -/
theorem post_arg1 : afterL postI (after testOps V) (Proc.devRef .tc main_arg1) = V (Proc.devRef .tc main_arg1) := by
  simp only [postI, afterL_cons, afterL_nil]
  after_reads_simp

/-- The operations after the loop leave argument 2. -/
theorem post_arg2 : afterL postI (after testOps V) (Proc.devRef .tc main_arg2) = V (Proc.devRef .tc main_arg2) := by
  simp only [postI, afterL_cons, afterL_nil]
  after_reads_simp

set_option maxHeartbeats 4000000 in
/-- Result 1, from the contents the loop leaves. -/
theorem post_main_v21 : afterL postI (after testOps V) (Proc.devRef .tc main_v21) = pick3 (F := F) (V (Proc.devRef .tc main_arg0)) (V (Proc.devRef .tc main_v3_4)) := by
  simp only [postI, afterL_cons, afterL_nil]
  after_reads_simp
  rfl

set_option maxHeartbeats 4000000 in
/-- Result 2, from the contents the loop leaves. -/
theorem post_main_v38 : afterL postI (after testOps V) (Proc.devRef .tc main_v38) = pick128 (F := F) (V (Proc.devRef .tc main_arg1)) (V (Proc.devRef .tc main_v3_4)) := by
  simp only [postI, afterL_cons, afterL_nil]
  after_reads_simp
  rfl

set_option maxHeartbeats 4000000 in
/-- Result 3, from the contents the loop leaves. -/
theorem post_main_v55 : afterL postI (after testOps V) (Proc.devRef .tc main_v55) = pick3 (F := F) (V (Proc.devRef .tc main_arg2)) (V (Proc.devRef .tc main_v3_4)) := by
  simp only [postI, afterL_cons, afterL_nil]
  after_reads_simp
  rfl

set_option maxHeartbeats 4000000 in
/-- The operations of the third result. -/
abbrev pickOps : List (HloOp τ sig (Elt F)) :=
  [ binary main_v40 main_v41 main_v42 (cmpi .slt : (⟨S4x1, .i32⟩ : BufTy).Contents (Elt F) → (⟨S4x1, .i32⟩ : BufTy).Contents (Elt F) → (⟨S4x1, .i1⟩ : BufTy).Contents (Elt F)),
    nullary main_c_11 (constantI S_ 32 4#32),
    unary main_c_11 main_v43 (broadcastInDim S4x1 ![] bcast_S_S4x1 : (⟨S_, .i32⟩ : BufTy).Contents (Elt F) → (⟨S4x1, .i32⟩ : BufTy).Contents (Elt F)),
    binary main_v40 main_v43 main_v44 (addi : (⟨S4x1, .i32⟩ : BufTy).Contents (Elt F) → (⟨S4x1, .i32⟩ : BufTy).Contents (Elt F) → (⟨S4x1, .i32⟩ : BufTy).Contents (Elt F)),
    ternary main_v42 main_v44 main_v40 main_v45 (select : (⟨S4x1, .i1⟩ : BufTy).Contents (Elt F) → (⟨S4x1, .i32⟩ : BufTy).Contents (Elt F) → (⟨S4x1, .i32⟩ : BufTy).Contents (Elt F) → (⟨S4x1, .i32⟩ : BufTy).Contents (Elt F)),
    nullary main_c_12 (constantI S_ 32 0#32),
    unary main_c_12 main_v46 (broadcastInDim S4x2048 ![] bcast_S_S4x2048 : (⟨S_, .i32⟩ : BufTy).Contents (Elt F) → (⟨S4x2048, .i32⟩ : BufTy).Contents (Elt F)),
    binary main_v4 main_v46 main_v47 (cmpi .slt : (⟨S4x2048, .i32⟩ : BufTy).Contents (Elt F) → (⟨S4x2048, .i32⟩ : BufTy).Contents (Elt F) → (⟨S4x2048, .i1⟩ : BufTy).Contents (Elt F)),
    nullary main_c_13 (constantI S_ 32 8192#32),
    unary main_c_13 main_v48 (broadcastInDim S4x2048 ![] bcast_S_S4x2048 : (⟨S_, .i32⟩ : BufTy).Contents (Elt F) → (⟨S4x2048, .i32⟩ : BufTy).Contents (Elt F)),
    binary main_v4 main_v48 main_v49 (addi : (⟨S4x2048, .i32⟩ : BufTy).Contents (Elt F) → (⟨S4x2048, .i32⟩ : BufTy).Contents (Elt F) → (⟨S4x2048, .i32⟩ : BufTy).Contents (Elt F)),
    ternary main_v47 main_v49 main_v4 main_v50 (select : (⟨S4x2048, .i1⟩ : BufTy).Contents (Elt F) → (⟨S4x2048, .i32⟩ : BufTy).Contents (Elt F) → (⟨S4x2048, .i32⟩ : BufTy).Contents (Elt F) → (⟨S4x2048, .i32⟩ : BufTy).Contents (Elt F)),
    unary main_v45 main_v51 (broadcastInDim S4x2048 ![0, 1] bcast_S4x1_S4x2048_0_1 : (⟨S4x1, .i32⟩ : BufTy).Contents (Elt F) → (⟨S4x2048, .i32⟩ : BufTy).Contents (Elt F)),
    unary main_v51 main_v52 (broadcastInDim S4x2048x1 ![0, 1] bcast_S4x2048_S4x2048x1_0_1 : (⟨S4x2048, .i32⟩ : BufTy).Contents (Elt F) → (⟨S4x2048x1, .i32⟩ : BufTy).Contents (Elt F)),
    unary main_v50 main_v53 (broadcastInDim S4x2048x1 ![0, 1] bcast_S4x2048_S4x2048x1_0_1 : (⟨S4x2048, .i32⟩ : BufTy).Contents (Elt F) → (⟨S4x2048x1, .i32⟩ : BufTy).Contents (Elt F)),
    binary main_v52 main_v53 main_v54 ((fun a b => concatenate S4x2048x2 2 [⟨S4x2048x1, a⟩, ⟨S4x2048x1, b⟩] concatenates_S4x2048x1_S4x2048x1_S4x2048x2_d2) : (⟨S4x2048x1, .i32⟩ : BufTy).Contents (Elt F) → (⟨S4x2048x1, .i32⟩ : BufTy).Contents (Elt F) → (⟨S4x2048x2, .i32⟩ : BufTy).Contents (Elt F)),
    binary main_arg2 main_v54 main_v55 ((fun x i => Host.gather gather_S4x8192x3_S4x2048x2_S4x2048x3_2_01_n_n_01_2_113 x i) : (⟨S4x8192x3, .f32⟩ : BufTy).Contents (Elt F) → (⟨S4x2048x2, .i32⟩ : BufTy).Contents (Elt F) → (⟨S4x2048x3, .f32⟩ : BufTy).Contents (Elt F)) ]

set_option maxHeartbeats 4000000 in
/-- The operations of the distances. -/
abbrev distOps : List (HloOp τ sig (Elt F)) :=
  [ binary main_v21 main_v21 main_v56 (mulf : (⟨S4x2048x3, .f32⟩ : BufTy).Contents (Elt F) → (⟨S4x2048x3, .f32⟩ : BufTy).Contents (Elt F) → (⟨S4x2048x3, .f32⟩ : BufTy).Contents (Elt F)),
    nullary main_cst_14 (constant S_ .f32 0x00000000#32),
    binary main_v56 main_cst_14 main_v57 ((fun x v => Host.reduceAdd x v reducesTo_S4x2048x3_S4x2048_d2 h_S_) : (⟨S4x2048x3, .f32⟩ : BufTy).Contents (Elt F) → (⟨S_, .f32⟩ : BufTy).Contents (Elt F) → (⟨S4x2048, .f32⟩ : BufTy).Contents (Elt F)),
    unary main_v57 main_v58 (broadcastInDim S4x2048x1 ![0, 1] bcast_S4x2048_S4x2048x1_0_1 : (⟨S4x2048, .f32⟩ : BufTy).Contents (Elt F) → (⟨S4x2048x1, .f32⟩ : BufTy).Contents (Elt F)),
    binary main_v21 main_arg0 main_v59 ((fun l r => Host.dotGeneral dot_S4x2048x3_S4x8192x3_S4x2048x8192_2_2_1_1_0_0 none l r) : (⟨S4x2048x3, .f32⟩ : BufTy).Contents (Elt F) → (⟨S4x8192x3, .f32⟩ : BufTy).Contents (Elt F) → (⟨S4x2048x8192, .f32⟩ : BufTy).Contents (Elt F)),
    nullary main_cst_15 (constant S_ .f32 0x40000000#32),
    unary main_cst_15 main_v60 (broadcastInDim S4x2048x8192 ![] bcast_S_S4x2048x8192 : (⟨S_, .f32⟩ : BufTy).Contents (Elt F) → (⟨S4x2048x8192, .f32⟩ : BufTy).Contents (Elt F)),
    binary main_v60 main_v59 main_v61 (mulf : (⟨S4x2048x8192, .f32⟩ : BufTy).Contents (Elt F) → (⟨S4x2048x8192, .f32⟩ : BufTy).Contents (Elt F) → (⟨S4x2048x8192, .f32⟩ : BufTy).Contents (Elt F)),
    unary main_v58 main_v62 (broadcastInDim S4x2048x8192 ![0, 1, 2] bcast_S4x2048x1_S4x2048x8192_0_1_2 : (⟨S4x2048x1, .f32⟩ : BufTy).Contents (Elt F) → (⟨S4x2048x8192, .f32⟩ : BufTy).Contents (Elt F)),
    binary main_v62 main_v61 main_v63 (subf : (⟨S4x2048x8192, .f32⟩ : BufTy).Contents (Elt F) → (⟨S4x2048x8192, .f32⟩ : BufTy).Contents (Elt F) → (⟨S4x2048x8192, .f32⟩ : BufTy).Contents (Elt F)),
    binary main_arg0 main_arg0 main_v64 (mulf : (⟨S4x8192x3, .f32⟩ : BufTy).Contents (Elt F) → (⟨S4x8192x3, .f32⟩ : BufTy).Contents (Elt F) → (⟨S4x8192x3, .f32⟩ : BufTy).Contents (Elt F)),
    nullary main_cst_16 (constant S_ .f32 0x00000000#32),
    binary main_v64 main_cst_16 main_v65 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
    unary main_v65 main_v66 (broadcastInDim S4x1x8192 ![0, 2] bcast_S4x8192_S4x1x8192_0_2 : (⟨S4x8192, .f32⟩ : BufTy).Contents (Elt F) → (⟨S4x1x8192, .f32⟩ : BufTy).Contents (Elt F)),
    unary main_v66 main_v67 (broadcastInDim S4x2048x8192 ![0, 1, 2] bcast_S4x1x8192_S4x2048x8192_0_1_2 : (⟨S4x1x8192, .f32⟩ : BufTy).Contents (Elt F) → (⟨S4x2048x8192, .f32⟩ : BufTy).Contents (Elt F)),
    binary main_v63 main_v67 main_v68 (addf : (⟨S4x2048x8192, .f32⟩ : BufTy).Contents (Elt F) → (⟨S4x2048x8192, .f32⟩ : BufTy).Contents (Elt F) → (⟨S4x2048x8192, .f32⟩ : BufTy).Contents (Elt F)) ]

set_option maxHeartbeats 4000000 in
/-- The negated distances, and the greatest of them. -/
abbrev nearOps : List (HloOp τ sig (Elt F)) :=
  [ unary main_v68 main_v69 (Host.negf : (⟨S4x2048x8192, .f32⟩ : BufTy).Contents (Elt F) → (⟨S4x2048x8192, .f32⟩ : BufTy).Contents (Elt F)),
    unary main_v69 main_values ((fun x => (Host.topK S4x2048x24 2 (FloatOps.cmpfTotal .gt) x sliceFits_S4x2048x8192_S4x2048x24).1) : (⟨S4x2048x8192, .f32⟩ : BufTy).Contents (Elt F) → (⟨S4x2048x24, .f32⟩ : BufTy).Contents (Elt F)),
    unary main_v69 main_indices ((fun x => (Host.topK S4x2048x24 2 (FloatOps.cmpfTotal .gt) x sliceFits_S4x2048x8192_S4x2048x24).2) : (⟨S4x2048x8192, .f32⟩ : BufTy).Contents (Elt F) → (⟨S4x2048x24, .i32⟩ : BufTy).Contents (Elt F)) ]

set_option maxHeartbeats 4000000 in
/-- The operations of the fourth result. -/
abbrev gatherOps : List (HloOp τ sig (Elt F)) :=
  [ nullary main_v70 (iotaInDim S4 32 0),
    reshape main_v70 main_v71 (rfl : (.i32 : EltTy) = .i32) shapeCasts_S4_S4x1x1,
    nullary main_c_17 (constantI S_ 32 0#32),
    unary main_c_17 main_v72 (broadcastInDim S4x1x1 ![] bcast_S_S4x1x1 : (⟨S_, .i32⟩ : BufTy).Contents (Elt F) → (⟨S4x1x1, .i32⟩ : BufTy).Contents (Elt F)),
    binary main_v71 main_v72 main_v73 (cmpi .slt : (⟨S4x1x1, .i32⟩ : BufTy).Contents (Elt F) → (⟨S4x1x1, .i32⟩ : BufTy).Contents (Elt F) → (⟨S4x1x1, .i1⟩ : BufTy).Contents (Elt F)),
    nullary main_c_18 (constantI S_ 32 4#32),
    unary main_c_18 main_v74 (broadcastInDim S4x1x1 ![] bcast_S_S4x1x1 : (⟨S_, .i32⟩ : BufTy).Contents (Elt F) → (⟨S4x1x1, .i32⟩ : BufTy).Contents (Elt F)),
    binary main_v71 main_v74 main_v75 (addi : (⟨S4x1x1, .i32⟩ : BufTy).Contents (Elt F) → (⟨S4x1x1, .i32⟩ : BufTy).Contents (Elt F) → (⟨S4x1x1, .i32⟩ : BufTy).Contents (Elt F)),
    ternary main_v73 main_v75 main_v71 main_v76 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    nullary main_c_19 (constantI S_ 32 0#32),
    unary main_c_19 main_v77 (broadcastInDim S4x2048x24 ![] bcast_S_S4x2048x24 : (⟨S_, .i32⟩ : BufTy).Contents (Elt F) → (⟨S4x2048x24, .i32⟩ : BufTy).Contents (Elt F)),
    binary main_indices main_v77 main_v78 (cmpi .slt : (⟨S4x2048x24, .i32⟩ : BufTy).Contents (Elt F) → (⟨S4x2048x24, .i32⟩ : BufTy).Contents (Elt F) → (⟨S4x2048x24, .i1⟩ : BufTy).Contents (Elt F)),
    nullary main_c_20 (constantI S_ 32 8192#32),
    unary main_c_20 main_v79 (broadcastInDim S4x2048x24 ![] bcast_S_S4x2048x24 : (⟨S_, .i32⟩ : BufTy).Contents (Elt F) → (⟨S4x2048x24, .i32⟩ : BufTy).Contents (Elt F)),
    binary main_indices main_v79 main_v80 (addi : (⟨S4x2048x24, .i32⟩ : BufTy).Contents (Elt F) → (⟨S4x2048x24, .i32⟩ : BufTy).Contents (Elt F) → (⟨S4x2048x24, .i32⟩ : BufTy).Contents (Elt F)),
    ternary main_v78 main_v80 main_indices main_v81 (select : (⟨S4x2048x24, .i1⟩ : BufTy).Contents (Elt F) → (⟨S4x2048x24, .i32⟩ : BufTy).Contents (Elt F) → (⟨S4x2048x24, .i32⟩ : BufTy).Contents (Elt F) → (⟨S4x2048x24, .i32⟩ : BufTy).Contents (Elt F)),
    unary main_v76 main_v82 (broadcastInDim S4x2048x24 ![0, 1, 2] bcast_S4x1x1_S4x2048x24_0_1_2 : (⟨S4x1x1, .i32⟩ : BufTy).Contents (Elt F) → (⟨S4x2048x24, .i32⟩ : BufTy).Contents (Elt F)),
    unary main_v82 main_v83 (broadcastInDim S4x2048x24x1 ![0, 1, 2] bcast_S4x2048x24_S4x2048x24x1_0_1_2 : (⟨S4x2048x24, .i32⟩ : BufTy).Contents (Elt F) → (⟨S4x2048x24x1, .i32⟩ : BufTy).Contents (Elt F)),
    unary main_v81 main_v84 (broadcastInDim S4x2048x24x1 ![0, 1, 2] bcast_S4x2048x24_S4x2048x24x1_0_1_2 : (⟨S4x2048x24, .i32⟩ : BufTy).Contents (Elt F) → (⟨S4x2048x24x1, .i32⟩ : BufTy).Contents (Elt F)),
    binary main_v83 main_v84 main_v85 ((fun a b => concatenate S4x2048x24x2 3 [⟨S4x2048x24x1, a⟩, ⟨S4x2048x24x1, b⟩] concatenates_S4x2048x24x1_S4x2048x24x1_S4x2048x24x2_d3) : (⟨S4x2048x24x1, .i32⟩ : BufTy).Contents (Elt F) → (⟨S4x2048x24x1, .i32⟩ : BufTy).Contents (Elt F) → (⟨S4x2048x24x2, .i32⟩ : BufTy).Contents (Elt F)),
    binary main_arg0 main_v85 main_v86 ((fun x i => Host.gather gather_S4x8192x3_S4x2048x24x2_S4x2048x24x3_3_01_n_n_01_3_113 x i) : (⟨S4x8192x3, .f32⟩ : BufTy).Contents (Elt F) → (⟨S4x2048x24x2, .i32⟩ : BufTy).Contents (Elt F) → (⟨S4x2048x24x3, .f32⟩ : BufTy).Contents (Elt F)),
    nullary main_v87 (iotaInDim S4 32 0),
    reshape main_v87 main_v88 (rfl : (.i32 : EltTy) = .i32) shapeCasts_S4_S4x1x1,
    nullary main_c_21 (constantI S_ 32 0#32) ]

/-- The second part of the operations after the loop is these four stretches. -/
theorem postB_eq : (postB : List (HloOp τ sig (Elt F))) = pickOps ++ (distOps ++ (nearOps ++ gatherOps)) := rfl

/-- The contents before the distances. -/
def V1 : Valuation τ sig (Elt F) := after pickOps (after postA (after testOps V))

theorem V1_arg0 : V1 V (Proc.devRef .tc main_arg0) = V (Proc.devRef .tc main_arg0) := by
  unfold V1; after_reads_simp
theorem V1_arg1 : V1 V (Proc.devRef .tc main_arg1) = V (Proc.devRef .tc main_arg1) := by
  unfold V1; after_reads_simp
theorem V1_arg2 : V1 V (Proc.devRef .tc main_arg2) = V (Proc.devRef .tc main_arg2) := by
  unfold V1; after_reads_simp
theorem V1_v21 : V1 V (Proc.devRef .tc main_v21) = pick3 (F := F) (V (Proc.devRef .tc main_arg0)) (V (Proc.devRef .tc main_v3_4)) := by
  unfold V1; after_reads_simp; rfl

/-- The contents once the nearest are found. -/
def V2 : Valuation τ sig (Elt F) := after nearOps (after distOps (V1 V))

theorem V2_arg0 : V2 V (Proc.devRef .tc main_arg0) = V (Proc.devRef .tc main_arg0) := by
  rw [← V1_arg0 V]; unfold V2; after_reads_simp
theorem V2_arg1 : V2 V (Proc.devRef .tc main_arg1) = V (Proc.devRef .tc main_arg1) := by
  rw [← V1_arg1 V]; unfold V2; after_reads_simp
theorem V2_arg2 : V2 V (Proc.devRef .tc main_arg2) = V (Proc.devRef .tc main_arg2) := by
  rw [← V1_arg2 V]; unfold V2; after_reads_simp

theorem dist_v68 (W : Valuation τ sig (Elt F)) : after distOps W (Proc.devRef .tc main_v68)
    = squareDist (F := F) (W (Proc.devRef .tc main_v21)) (W (Proc.devRef .tc main_arg0)) := by
  after_reads_simp; rfl
theorem near_indices (W : Valuation τ sig (Elt F)) : after nearOps W (Proc.devRef .tc main_indices)
    = nearest (F := F) (W (Proc.devRef .tc main_v68)) := by
  after_reads_simp; rfl

/-- The indices of the nearest. -/
theorem V2_indices : V2 V (Proc.devRef .tc main_indices)
    = nearest (squareDist (pick3 (F := F) (V (Proc.devRef .tc main_arg0)) (V (Proc.devRef .tc main_v3_4))) (V (Proc.devRef .tc main_arg0))) := by
  unfold V2; rw [near_indices, dist_v68, V1_v21, V1_arg0]

theorem post_eq : afterL postI (after testOps V) = after postC (after gatherOps (V2 V)) := by
  simp only [postI, afterL_cons, afterL_nil]
  rw [postB_eq, after_append, after_append, after_append]
  rfl

/-- Result 4, from the contents the loop leaves. -/
theorem post_main_v86 : afterL postI (after testOps V) (Proc.devRef .tc main_v86) = near3 (V (Proc.devRef .tc main_arg0)) (squareDist (pick3 (F := F) (V (Proc.devRef .tc main_arg0)) (V (Proc.devRef .tc main_v3_4))) (V (Proc.devRef .tc main_arg0))) := by
  rw [post_eq, near3, ← V2_indices V, ← V2_arg0 V]
  generalize V2 V = W
  after_reads_simp
  rfl

/-- Result 5, from the contents the loop leaves. -/
theorem post_main_v103 : afterL postI (after testOps V) (Proc.devRef .tc main_v103) = near128 (V (Proc.devRef .tc main_arg1)) (squareDist (pick3 (F := F) (V (Proc.devRef .tc main_arg0)) (V (Proc.devRef .tc main_v3_4))) (V (Proc.devRef .tc main_arg0))) := by
  rw [post_eq, near128, ← V2_indices V, ← V2_arg1 V]
  generalize V2 V = W
  after_reads_simp
  rfl

/-- Result 6, from the contents the loop leaves. -/
theorem post_main_v120 : afterL postI (after testOps V) (Proc.devRef .tc main_v120) = near3 (V (Proc.devRef .tc main_arg2)) (squareDist (pick3 (F := F) (V (Proc.devRef .tc main_arg0)) (V (Proc.devRef .tc main_v3_4))) (V (Proc.devRef .tc main_arg0))) := by
  rw [post_eq, near3, ← V2_indices V, ← V2_arg2 V]
  generalize V2 V = W
  after_reads_simp
  rfl

end Post

end Cert.ReferenceIdeal.Run

end

end
-- ==== Proof.RefResults.lean ====
/- The reference program's run with its six results stated as functions of its three arguments, and its frame: the
   arguments end as they were and every semaphore counter reads zero. -/
module

public import proofs.«01_k».proof.Proof.RefValues

@[expose] public section

set_option maxRecDepth 16384

noncomputable section

namespace Cert.ReferenceIdeal.Run

open Cert.ReferenceIdeal Cert.ReferenceIdeal.Gen
open Idealize.ShloMosaic Idealize.ShloMosaic.TcCoe
open Idealize.SL.Sem
open Idealize.ShloMosaic.StableHlo

variable {F : FTy → Type} [FloatOps F]
variable (m : (ℓ : Loc nD τ sig) → Buf (Elt F) ℓ) (ρ : Dev nD → PrngReg)

/-- The index array the loop leaves. -/
def rowsOf (x : FVec F S4x8192x3 .f32) : IVec S2048x4 32 := (carried x 2048).2.2

/-- The distances of all points from the picked points. -/
def distOf (x : FVec F S4x8192x3 .f32) : FVec F S4x2048x8192 .f32 := squareDist (pick3 x (rowsOf x)) x

/-- The program declares no semaphore. -/
theorem no_sem : ∀ sm : SemLoc sig, False := by decide

theorem final_eq (c : Dev nD) (b : DevRef τ sig) :
    finalContents testOps preI bodyI postI 2048 m c b = afterL postI (after testOps (atK m 2048 c)) b := rfl

/-- What a run leaves: six functions of the arguments, and the arguments. -/
def Post (r : PUnit × MemSt nD τ sig (Elt F)) : Prop := ∀ c : Dev nD,
  r.2.mem ((c.tc : Thread nD τ).loc main_v21) = pick3 (m ((c.tc).loc main_arg0)) (rowsOf (F := F) (m ((c.tc).loc main_arg0)))
  ∧ r.2.mem ((c.tc : Thread nD τ).loc main_v38) = pick128 (m ((c.tc).loc main_arg1)) (rowsOf (F := F) (m ((c.tc).loc main_arg0)))
  ∧ r.2.mem ((c.tc : Thread nD τ).loc main_v55) = pick3 (m ((c.tc).loc main_arg2)) (rowsOf (F := F) (m ((c.tc).loc main_arg0)))
  ∧ r.2.mem ((c.tc : Thread nD τ).loc main_v86) = near3 (m ((c.tc).loc main_arg0)) (distOf (F := F) (m ((c.tc).loc main_arg0)))
  ∧ r.2.mem ((c.tc : Thread nD τ).loc main_v103) = near128 (m ((c.tc).loc main_arg1)) (distOf (F := F) (m ((c.tc).loc main_arg0)))
  ∧ r.2.mem ((c.tc : Thread nD τ).loc main_v120) = near3 (m ((c.tc).loc main_arg2)) (distOf (F := F) (m ((c.tc).loc main_arg0)))
  ∧ r.2.mem ((c.tc : Thread nD τ).loc main_arg0) = m ((c.tc).loc main_arg0)
  ∧ r.2.mem ((c.tc : Thread nD τ).loc main_arg1) = m ((c.tc).loc main_arg1)
  ∧ r.2.mem ((c.tc : Thread nD τ).loc main_arg2) = m ((c.tc).loc main_arg2)

/-- From any memory whose counters read zero, for any float values: every fair execution of the main function ends with
    the six results at these functions of the arguments, and the arguments unchanged. -/
theorem run : θ_run (defs (F := F)) (onTc (τ := τ) (main (F := F))) ⟨m, fun _ => 0, ρ⟩ (Post m) := by
  refine (θ_run defs _ _).mono (fun r h c => ?_) (run_all m ρ)
  have key := fun b hb => (h c b hb).trans (final_eq m c (Proc.devRef .tc b))
  have hr : atK m 2048 c (Proc.devRef .tc main_v3_4) = rowsOf (F := F) (m ((c.tc).loc main_arg0)) := (atK_carried m c 2048).2.2
  refine ⟨?_, ?_, ?_, ?_, ?_, ?_, ?_, ?_, ?_⟩
  · rw [key main_v21 rfl, post_main_v21, atK_arg0, hr]
  · rw [key main_v38 rfl, post_main_v38, atK_arg1, hr]
  · rw [key main_v55 rfl, post_main_v55, atK_arg2, hr]
  · rw [key main_v86 rfl, post_main_v86, atK_arg0, hr, distOf]
  · rw [key main_v103 rfl, post_main_v103, atK_arg1, atK_arg0, hr, distOf]
  · rw [key main_v120 rfl, post_main_v120, atK_arg2, atK_arg0, hr, distOf]
  · rw [key main_arg0 rfl, post_arg0, atK_arg0]
  · rw [key main_arg1 rfl, post_arg1, atK_arg1]
  · rw [key main_arg2 rfl, post_arg2, atK_arg2]

/-- The frame: the arguments end unchanged and every semaphore counter reads zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2.2.2.2.2.2, funext fun g => (no_sem g.2).elim⟩) (run m ρ)

end Cert.ReferenceIdeal.Run

end

end
-- ==== Proof.KernelLoop.lean ====
/- The kernel's index program: what its loop carries and stores, trip by trip, as functions of the block it is given. -/
module

public import proofs.«01_k».proof.Proof.Gen.KernelIdeal.Frame
public import Idealize.ShloMosaic.Lib.ValueIdx
public import Idealize.ShloMosaic.Lib.WholeRead
public import Idealize.ShloMosaic.Lib.Writes
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe
open Idealize.SL.Sem
open Idealize.ShloMosaic.ValueIdx

variable {F : FTy → Type} [FloatOps F]

section Trip
variable (𝒱 : Variants) (c : Dev nD) (bd : Option 𝒱.V) (arg0 : Memref sig .tc .vmem S3x4x64x128 .f32) (harg0 : arg0.IsWhole)
  (arg1 : Memref sig .tc .vmem S2048x4 .i32) (harg1 : arg1.IsWhole) (v0 v2 v4 : Vec F S1x4x64x128 .f32)

/-- One trip's carried values. -/
theorem tripR_eq (k : Fin k0_t1_loop.trips) (acc : FVec F S4x64x128 .f32 × IVec S4x1x1 32) :
    tripR_k0_t1 𝒱 c bd arg0 harg0 arg1 harg1 v0 v2 v4 k acc = (k0_pay5 v0 v2 v4 acc.1 acc.2, k0_pay6 v0 v2 v4 acc.1 acc.2) := by
  unfold tripR_k0_t1 trip_k0_t1
  rfl

/-- One trip's store: the chosen indices at the trip's row. -/
theorem tripL_eq (k : Fin k0_t1_loop.trips) (acc : FVec F S4x64x128 .f32 × IVec S4x1x1 32) :
    tripL_k0_t1 (F := F) 𝒱 c bd arg0 harg0 arg1 harg1 v0 v2 v4 k acc
      = [⟨Rect.unit (s := S2048x4) (k0_off1 k) S1x4.size (k0_off1_inb k), k0_pay4 acc.2⟩] := by
  unfold tripL_k0_t1 trip_k0_t1
  rfl

end Trip

/-- What the loop carries before trip `k`, from the three coordinate planes: the distances to the indices chosen so far
    and the index chosen last. -/
def state (p0 p1 p2 : Vec F S1x4x64x128 .f32) : ℕ → FVec F S4x64x128 .f32 × IVec S4x1x1 32
  | 0 => (k0_pay2, k0_pay3)
  | k + 1 => (k0_pay5 p0 p1 p2 (state p0 p1 p2 k).1 (state p0 p1 p2 k).2, k0_pay6 p0 p1 p2 (state p0 p1 p2 k).1 (state p0 p1 p2 k).2)

/-- The block the program leaves: row `k` holds the indices carried into trip `k`. -/
def stored (p0 p1 p2 : Vec F S1x4x64x128 .f32) : Vec F S2048x4 .i32 := fun y =>
  k0_pay4 (state p0 p1 p2 (y 0).val).2 (ValueIdx.ix2 (0 : Fin 1) (y 1))

section Trips
variable (𝒱 : Variants) (c : Dev nD) (bd : Option 𝒱.V) (arg0 : Memref sig .tc .vmem S3x4x64x128 .f32) (harg0 : arg0.IsWhole)
  (arg1 : Memref sig .tc .vmem S2048x4 .i32) (harg1 : arg1.IsWhole) (p0 p1 p2 : Vec F S1x4x64x128 .f32)

/-- The carried values before trip `k` of the run are `state k`. -/
theorem st_fst (k : ℕ) (hk : k ≤ k0_t1_loop.trips) :
    (st_k0_t1 𝒱 c bd arg0 harg0 arg1 harg1 p0 p1 p2 (k0_pay2, k0_pay3) k).1 = state p0 p1 p2 k := by
  induction k with
  | zero => rfl
  | succ k ih =>
    rw [st_k0_t1_succ (k := ⟨k, hk⟩), tripR_eq]
    show (k0_pay5 p0 p1 p2 (st_k0_t1 𝒱 c bd arg0 harg0 arg1 harg1 p0 p1 p2 (k0_pay2, k0_pay3) k).1.1 _, _) = _
    rw [ih (by omega)]
    rfl

/-- Every store before trip `k` agrees with `stored`. -/
theorem st_snd (k : ℕ) (hk : k ≤ k0_t1_loop.trips) :
    ∀ p ∈ (st_k0_t1 𝒱 c bd arg0 harg0 arg1 harg1 p0 p1 p2 (k0_pay2, k0_pay3) k).2, ∀ x, p.2 x = stored p0 p1 p2 (p.1.emb x) := by
  induction k with
  | zero => intro p hp; exact absurd hp List.not_mem_nil
  | succ k ih =>
    rw [st_k0_t1_succ (k := ⟨k, hk⟩), tripL_eq]
    intro p hp x
    rcases List.mem_append.mp hp with h | h
    · obtain rfl := List.mem_singleton.mp h
      have e0 : ((Rect.unit (s := S2048x4) (k0_off1 ⟨k, hk⟩) S1x4.size (k0_off1_inb ⟨k, hk⟩)).emb x 0 : ℕ) = k := by
        rw [ValueKit.rect_emb_unit_val, congrFun (k0_off1_eq ⟨k, hk⟩) 0]
        have := idx2_lt0 (n0 := 1) (n1 := 4) x
        show k + (x 0).val = k
        omega
      have e1 : ((Rect.unit (s := S2048x4) (k0_off1 ⟨k, hk⟩) S1x4.size (k0_off1_inb ⟨k, hk⟩)).emb x 1 : ℕ) = (x 1).val := by
        refine (ValueKit.rect_emb_unit_val _ _ _ x 1).trans ?_
        rw [congrFun (k0_off1_eq ⟨k, hk⟩) 1]
        show 0 + (x 1).val = _
        omega
      show k0_pay4 (st_k0_t1 𝒱 c bd arg0 harg0 arg1 harg1 p0 p1 p2 (k0_pay2, k0_pay3) k).1.2 x = _
      rw [st_fst 𝒱 c bd arg0 harg0 arg1 harg1 p0 p1 p2 k (by omega)]
      unfold stored
      rw [e0]
      congr 1
      funext a
      match a with
      | ⟨0, _⟩ => exact Subsingleton.elim (α := Fin 1) _ _
      | ⟨1, _⟩ => exact Fin.ext e1.symm
    · exact ih (by omega) p h x

end Trips

/-- Plane `d` of a block of three. -/
def plane (d : Fin 3) (x : Vec F S3x4x64x128 .f32) : Vec F S1x4x64x128 .f32 := fun i => x (ValueIdx.ix4 d (i 1) (i 2) (i 3))

/-- THE PROGRAM'S BLOCK: what one call leaves, from the block it reads. -/
theorem out_eq (c : Dev nD) (arg0 : Memref sig .tc .vmem S3x4x64x128 .f32) (harg0 : arg0.IsWhole) (arg1 : Memref sig .tc .vmem S2048x4 .i32)
    (harg1 : arg1.IsWhole) (x0 : Vec F S3x4x64x128 .f32) :
    out0_A_1 c arg0 harg0 arg1 harg1 x0 = stored (plane 0 x0) (plane 1 x0) (plane 2 x0) := by
  have hp0 : View.readAt (Elt F) arg0.view (Rect.unit ![0,0,0,0] ![1,4,64,128] inb_S3x4x64x128_S1x4x64x128_0_0_0_0).toLoadRect (harg0.unread x0) = plane 0 x0 := by
    funext i
    rw [Memref.IsWhole.readAt_unread]
    unfold plane
    congr 1
    funext a
    match a with
    | ⟨0, _⟩ => refine Fin.ext ?_; have := (i 0).isLt; show 0 + 1 * (i 0).val = 0; change (i 0).val < 1 at this; omega
    | ⟨1, _⟩ => refine Fin.ext ?_; show 0 + 1 * (i 1).val = (i 1).val; omega
    | ⟨2, _⟩ => refine Fin.ext ?_; show 0 + 1 * (i 2).val = (i 2).val; omega
    | ⟨3, _⟩ => refine Fin.ext ?_; show 0 + 1 * (i 3).val = (i 3).val; omega
  have hp1 : View.readAt (Elt F) arg0.view (Rect.unit ![1,0,0,0] ![1,4,64,128] inb_S3x4x64x128_S1x4x64x128_1_0_0_0).toLoadRect (harg0.unread x0) = plane 1 x0 := by
    funext i
    rw [Memref.IsWhole.readAt_unread]
    unfold plane
    congr 1
    funext a
    match a with
    | ⟨0, _⟩ => refine Fin.ext ?_; have := (i 0).isLt; show 1 + 1 * (i 0).val = 1; change (i 0).val < 1 at this; omega
    | ⟨1, _⟩ => refine Fin.ext ?_; show 0 + 1 * (i 1).val = (i 1).val; omega
    | ⟨2, _⟩ => refine Fin.ext ?_; show 0 + 1 * (i 2).val = (i 2).val; omega
    | ⟨3, _⟩ => refine Fin.ext ?_; show 0 + 1 * (i 3).val = (i 3).val; omega
  have hp2 : View.readAt (Elt F) arg0.view (Rect.unit ![2,0,0,0] ![1,4,64,128] inb_S3x4x64x128_S1x4x64x128_2_0_0_0).toLoadRect (harg0.unread x0) = plane 2 x0 := by
    funext i
    rw [Memref.IsWhole.readAt_unread]
    unfold plane
    congr 1
    funext a
    match a with
    | ⟨0, _⟩ => refine Fin.ext ?_; have := (i 0).isLt; show 2 + 1 * (i 0).val = 2; change (i 0).val < 1 at this; omega
    | ⟨1, _⟩ => refine Fin.ext ?_; show 0 + 1 * (i 1).val = (i 1).val; omega
    | ⟨2, _⟩ => refine Fin.ext ?_; show 0 + 1 * (i 2).val = (i 2).val; omega
    | ⟨3, _⟩ => refine Fin.ext ?_; show 0 + 1 * (i 3).val = (i 3).val; omega
  funext y
  unfold out0_A_1
  refine View.read_writes_apply_of_pieces _ _ _ _ ?_ y (cover0_A_1 c arg0 harg0 arg1 harg1 x0 y)
  have hL : (kernelRun0_A c arg0 harg0 arg1 harg1 x0).1
      = (st_k0_t1 Variants.none c none arg0 harg0 arg1 harg1 (plane 0 x0) (plane 1 x0) (plane 2 x0) (k0_pay2, k0_pay3) k0_t1_loop.trips).2 := by
    rw [← hp0, ← hp1, ← hp2]
    unfold kernelRun0_A
    dsimp only
  rw [hL]
  exact st_snd _ _ _ _ _ _ _ _ _ _ _ le_rfl

end Cert.KernelIdeal.Run

end

end
-- ==== Proof.KernelArrays.lean ====
/- The arrays the kernel program's two kernels leave: the index array, and the distance array block by block. -/
module

public import proofs.«01_k».proof.Proof.KernelLoop

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg) (c : Dev nD)

/-! ## The index array -/

theorem index0_0 : ∀ t : Fin cfg0.N, win0_0.index t = ![0, 0, 0, 0] := by decide +kernel
theorem index0_1 : ∀ t : Fin cfg0.N, win0_1.index t = ![0, 0] := by decide +kernel

/-- The first kernel reads its whole array. -/
theorem iblk0_eq (t : Fin cfg0.N) : (iblk0 (V1 m ρ) c 0 t : Vec F S3x4x64x128 .f32) = W1 m ρ c (Proc.devRef .tc main_v1) := by
  funext y
  blk_simp [iblk0]
  refine congrArg (W1 m ρ c (Proc.devRef .tc main_v1)) ?_
  blk_ext [index0_0]

/-- What the first kernel leaves: the rows stored from the planes of its array. -/
theorem W2_v2 : W2 m ρ c (Proc.devRef .tc main_v2)
    = stored (plane 0 (W1 m ρ c (Proc.devRef .tc main_v1) : Vec F S3x4x64x128 .f32))
        (plane 1 (W1 m ρ c (Proc.devRef .tc main_v1) : Vec F S3x4x64x128 .f32))
        (plane 2 (W1 m ρ c (Proc.devRef .tc main_v1) : Vec F S3x4x64x128 .f32)) := by
  refine (W2_arr m ρ c 1).trans ?_
  refine (dat0 (V1 m ρ) c).arrAt_eq_of_covers 1 _ (by decide +kernel) fun t hf y => ?_
  blk_simp
  rw [after0_1]
  unfold outsAt0
  rw [out_eq, iblk0_eq]
  refine congrArg (stored _ _ _) ?_
  blk_ext [index0_1]

/-! ## The distance array -/

theorem index1_0 : ∀ t : Fin cfg1.N, win1_0.index t = ![t.val / 8, t.val % 8, 0] := by decide +kernel
theorem index1_1 : ∀ t : Fin cfg1.N, win1_1.index t = ![t.val / 8, 0, 0] := by decide +kernel
theorem index1_2 : ∀ t : Fin cfg1.N, win1_2.index t = ![t.val / 8, t.val % 8, 0] := by decide +kernel

/-- Rows `256 j … 256 j + 255` of batch `b`. -/
def rowBlock (a : Vec F S4x2048x3 .f32) (b : Fin 4) (j : Fin 8) : Vec F S1x256x3 .f32 := fun i =>
  a (ValueIdx.ix3 b ⟨256 * j.val + (i 1).val, by have h : (i 1).val < 256 := (i 1).isLt; have := j.isLt; omega⟩ (i 2))

/-- Batch `b`'s rows. -/
def batchBlock (x : Vec F S4x3x8192 .f32) (b : Fin 4) : Vec F S1x3x8192 .f32 := fun i => x (ValueIdx.ix3 b (i 1) (i 2))

/-- The distance array: each block computed from its rows and its batch's points. -/
def distances (a : Vec F S4x2048x3 .f32) (x : Vec F S4x3x8192 .f32) : Vec F S4x2048x8192 .f32 := fun y =>
  k1_pay1 (rowBlock a (y 0) ⟨(y 1).val / 256, by have h : (y 1).val < 2048 := (y 1).isLt; omega⟩) (batchBlock x (y 0))
    (ValueIdx.ix3 (0 : Fin 1) ⟨(y 1).val % 256, Nat.mod_lt _ (by decide)⟩ (y 2))

/-- One call's block, from the blocks it reads. -/
theorem out1_eq (x0 : Vec F S1x256x3 .f32) (x1 : Vec F S1x3x8192 .f32) : out1_2 x0 x1 = k1_pay1 x0 x1 := by
  unfold out1_2
  rw [View.canon_unit_zero (by decide), View.ld_unit_zero (by decide), View.ld_unit_zero (by decide)]

theorem iblk1_0_eq (t : Fin cfg1.N) (b : Fin 4) (j : Fin 8) (hb : b.val = t.val / 8) (hj : j.val = t.val % 8) :
    (iblk1 (V3 m ρ) c 0 t : Vec F S1x256x3 .f32) = rowBlock (W3 m ρ c (Proc.devRef .tc main_v20)) b j := by
  funext y
  unfold rowBlock
  blk_simp [iblk1]
  refine congrArg (W3 m ρ c (Proc.devRef .tc main_v20)) ?_
  blk_ext [index1_0]
  · exact hb.symm

theorem iblk1_1_eq (t : Fin cfg1.N) (b : Fin 4) (hb : b.val = t.val / 8) :
    (iblk1 (V3 m ρ) c 1 t : Vec F S1x3x8192 .f32) = batchBlock (W3 m ρ c (Proc.devRef .tc main_v55)) b := by
  funext y
  unfold batchBlock
  blk_simp [iblk1]
  refine congrArg (W3 m ρ c (Proc.devRef .tc main_v55)) ?_
  blk_ext [index1_1]
  · exact hb.symm

/-- What the second kernel leaves. -/
theorem W4_v56 : W4 m ρ c (Proc.devRef .tc main_v56)
    = distances (W3 m ρ c (Proc.devRef .tc main_v20) : Vec F S4x2048x3 .f32) (W3 m ρ c (Proc.devRef .tc main_v55) : Vec F S4x3x8192 .f32) := by
  refine (W4_arr m ρ c 2).trans ?_
  refine (dat1 (V3 m ρ) c).arrAt_eq_of_covers 2 _ (by decide +kernel) fun t hf y => ?_
  blk_simp
  rw [after1_2, out1_eq]
  have ht : t.val < 32 := t.isLt
  have hy0 : (y 0).val < 1 := (y 0).isLt
  have hy1 : (y 1).val < 256 := (y 1).isLt
  have hy2 : (y 2).val < 8192 := (y 2).isLt
  rw [iblk1_0_eq m ρ c t ⟨t.val / 8, by omega⟩ ⟨t.val % 8, by omega⟩ rfl rfl, iblk1_1_eq m ρ c t ⟨t.val / 8, by omega⟩ rfl]
  have e : ((cfg1.win 2).blk t).view.emb y
      = (ValueIdx.ix3 ⟨t.val / 8, by omega⟩ ⟨256 * (t.val % 8) + (y 1).val, by omega⟩ ⟨(y 2).val, hy2⟩ : S4x2048x8192.Idx) := by
    blk_ext [index1_2]
  refine Eq.trans ?_ (congrArg (distances _ _) e.symm)
  unfold distances
  have ej : (⟨(256 * (t.val % 8) + (y 1).val) / 256, by omega⟩ : Fin 8) = ⟨t.val % 8, by omega⟩ := Fin.ext (by show (256 * (t.val % 8) + (y 1).val) / 256 = t.val % 8; omega)
  show _ = k1_pay1 (rowBlock _ ⟨t.val / 8, _⟩ ⟨(256 * (t.val % 8) + (y 1).val) / 256, _⟩) (batchBlock _ ⟨t.val / 8, _⟩) _
  rw [ej]
  refine congrArg (k1_pay1 _ _) ?_
  funext a
  match a with
  | ⟨0, _⟩ => exact Subsingleton.elim (α := Fin 1) _ _
  | ⟨1, _⟩ => refine Fin.ext ?_; show (y 1).val = (256 * (t.val % 8) + (y 1).val) % 256; omega
  | ⟨2, _⟩ => rfl

end Cert.KernelIdeal.Run

end

end
-- ==== Proof.KernelHost.lean ====
/- What the kernel program's host operations compute between and after the two kernels, as functions of the contents they
   start from; the formulas are the reference's own (picked rows, neighbours' rows). -/
module

public import proofs.«01_k».proof.Proof.Gen.KernelIdeal.Launch
public import proofs.«01_k».proof.Proof.RefValues

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem
open Idealize.ShloMosaic.StableHlo
open Cert.ReferenceIdeal.Run (pick3 pick128 near3 near128 nearest)

variable {F : FTy → Type} [FloatOps F] (V : Valuation τ sig (Elt F))

/-- The points, a plane per coordinate, each plane's rows cut into 64 rows of 128. -/
theorem host0_v1 : after hostOps0 V (Proc.devRef .tc main_v1)
    = shapeCast S3x4x64x128 (transpose S3x4x8192 [2, 0, 1] (V (Proc.devRef .tc main_arg0) : FVec F S4x8192x3 .f32)
        transposes_S4x8192x3_S3x4x8192_2_0_1) shapeCasts_S3x4x8192_S3x4x64x128 := by
  after_reads_simp
  rfl

set_option maxHeartbeats 4000000 in
/-- Result 1: the picked points. -/
theorem host1_v20 : after hostOps1 V (Proc.devRef .tc main_v20)
    = pick3 (F := F) (V (Proc.devRef .tc main_arg0)) (V (Proc.devRef .tc main_v2)) := by
  after_reads_simp
  rfl

set_option maxHeartbeats 4000000 in
/-- Result 2: the picked rows of the second argument. -/
theorem host1_v37 : after hostOps1 V (Proc.devRef .tc main_v37)
    = pick128 (F := F) (V (Proc.devRef .tc main_arg1)) (V (Proc.devRef .tc main_v2)) := by
  after_reads_simp
  rfl

set_option maxHeartbeats 4000000 in
/-- Result 3: the picked rows of the third argument. -/
theorem host1_v54 : after hostOps1 V (Proc.devRef .tc main_v54)
    = pick3 (F := F) (V (Proc.devRef .tc main_arg2)) (V (Proc.devRef .tc main_v2)) := by
  after_reads_simp
  rfl

set_option maxHeartbeats 4000000 in
/-- The points, a row per coordinate. -/
theorem host1_v55 : after hostOps1 V (Proc.devRef .tc main_v55)
    = transpose S4x3x8192 [0, 2, 1] (V (Proc.devRef .tc main_arg0) : FVec F S4x8192x3 .f32) transposes_S4x8192x3_S4x3x8192_0_2_1 := by
  after_reads_simp

/-- The negated distances, and where each row's 24 greatest of them are. -/
abbrev nearOps : List (HloOp τ sig (Elt F)) :=
  [ unary main_v56 main_v57 (Host.negf : (⟨S4x2048x8192, .f32⟩ : BufTy).Contents (Elt F) → (⟨S4x2048x8192, .f32⟩ : BufTy).Contents (Elt F)),
    unary main_v57 main_values ((fun x => (Host.topK S4x2048x24 2 (FloatOps.cmpfTotal .gt) x sliceFits_S4x2048x8192_S4x2048x24).1) : (⟨S4x2048x8192, .f32⟩ : BufTy).Contents (Elt F) → (⟨S4x2048x24, .f32⟩ : BufTy).Contents (Elt F)),
    unary main_v57 main_indices ((fun x => (Host.topK S4x2048x24 2 (FloatOps.cmpfTotal .gt) x sliceFits_S4x2048x8192_S4x2048x24).2) : (⟨S4x2048x8192, .f32⟩ : BufTy).Contents (Elt F) → (⟨S4x2048x24, .i32⟩ : BufTy).Contents (Elt F)) ]

/-- Three operations first, then the rest. -/
theorem after_three (a b d : HloOp τ sig (Elt F)) (l : List (HloOp τ sig (Elt F))) :
    after (a :: b :: d :: l) V = after l (after [a, b, d] V) := rfl

theorem near_indices : after nearOps V (Proc.devRef .tc main_indices) = nearest (F := F) (V (Proc.devRef .tc main_v56)) := by
  after_reads_simp
  rfl
theorem near_arg0 : after nearOps V (Proc.devRef .tc main_arg0) = V (Proc.devRef .tc main_arg0) := by after_reads_simp
theorem near_arg1 : after nearOps V (Proc.devRef .tc main_arg1) = V (Proc.devRef .tc main_arg1) := by after_reads_simp
theorem near_arg2 : after nearOps V (Proc.devRef .tc main_arg2) = V (Proc.devRef .tc main_arg2) := by after_reads_simp

set_option maxHeartbeats 4000000 in
/-- Result 4: the neighbours' points. -/
theorem host2_v74 : after hostOps2 V (Proc.devRef .tc main_v74)
    = near3 (F := F) (V (Proc.devRef .tc main_arg0)) (V (Proc.devRef .tc main_v56)) := by
  rw [near3, ← near_indices V, ← near_arg0 V, after_three]
  generalize after nearOps V = W
  after_reads_simp
  rfl

set_option maxHeartbeats 4000000 in
/-- Result 5: the neighbours' rows of the second argument. -/
theorem host2_v91 : after hostOps2 V (Proc.devRef .tc main_v91)
    = near128 (F := F) (V (Proc.devRef .tc main_arg1)) (V (Proc.devRef .tc main_v56)) := by
  rw [near128, ← near_indices V, ← near_arg1 V, after_three]
  generalize after nearOps V = W
  after_reads_simp
  rfl

set_option maxHeartbeats 4000000 in
/-- Result 6: the neighbours' rows of the third argument. -/
theorem host2_v108 : after hostOps2 V (Proc.devRef .tc main_v108)
    = near3 (F := F) (V (Proc.devRef .tc main_arg2)) (V (Proc.devRef .tc main_v56)) := by
  rw [near3, ← near_indices V, ← near_arg2 V, after_three]
  generalize after nearOps V = W
  after_reads_simp
  rfl

end Cert.KernelIdeal.Run

end

end
-- ==== Proof.KernelRun.lean ====
/- The kernel program's run: it terminates, keeps its arguments, and leaves six results that are functions of them. -/
module

public import proofs.«01_k».proof.Proof.KernelArrays
public import proofs.«01_k».proof.Proof.KernelHost

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Run (pick3 pick128 near3 near128)

variable {F : FTy → Type} [FloatOps F]

/-- The points as the first kernel gets them: a plane per coordinate, each batch's row cut into 64 rows of 128. -/
def planes (x : FVec F S4x8192x3 .f32) : Vec F S3x4x64x128 .f32 :=
  shapeCast S3x4x64x128 (transpose S3x4x8192 [2, 0, 1] x transposes_S4x8192x3_S3x4x8192_2_0_1) shapeCasts_S3x4x8192_S3x4x64x128

/-- The index array of the points. -/
def rowsOf (x : FVec F S4x8192x3 .f32) : IVec S2048x4 32 := stored (plane 0 (planes x)) (plane 1 (planes x)) (plane 2 (planes x))

/-- The distances from the picked points to all the points. -/
def distOf (x : FVec F S4x8192x3 .f32) : FVec F S4x2048x8192 .f32 :=
  distances (pick3 x (rowsOf x)) (transpose S4x3x8192 [0, 2, 1] x transposes_S4x8192x3_S4x3x8192_0_2_1)

variable (m : (ℓ : Loc nD τ sig) → Buf (Elt F) ℓ) (ρ : Dev nD → PrngReg) (c : Dev nD)

/-! ## The boundary contents, from the arguments -/

theorem W2_rows : W2 m ρ c (Proc.devRef .tc main_v2) = rowsOf (F := F) (m ((c.tc : Thread nD τ).loc main_arg0)) := by
  have h : W1 m ρ c (Proc.devRef .tc main_v1) = planes (F := F) (m ((c.tc : Thread nD τ).loc main_arg0)) := host0_v1 (W0 m ρ c)
  rw [W2_v2, h]
  rfl

theorem W3_v20 : W3 m ρ c (Proc.devRef .tc main_v20)
    = pick3 (F := F) (m ((c.tc : Thread nD τ).loc main_arg0)) (rowsOf (F := F) (m ((c.tc : Thread nD τ).loc main_arg0))) := by
  refine (host1_v20 (W2 m ρ c)).trans ?_
  rw [W2_rows, W2_args m ρ c main_arg0 (by decide)]

theorem W3_v37 : W3 m ρ c (Proc.devRef .tc main_v37)
    = pick128 (F := F) (m ((c.tc : Thread nD τ).loc main_arg1)) (rowsOf (F := F) (m ((c.tc : Thread nD τ).loc main_arg0))) := by
  refine (host1_v37 (W2 m ρ c)).trans ?_
  rw [W2_rows, W2_args m ρ c main_arg1 (by decide)]

theorem W3_v54 : W3 m ρ c (Proc.devRef .tc main_v54)
    = pick3 (F := F) (m ((c.tc : Thread nD τ).loc main_arg2)) (rowsOf (F := F) (m ((c.tc : Thread nD τ).loc main_arg0))) := by
  refine (host1_v54 (W2 m ρ c)).trans ?_
  rw [W2_rows, W2_args m ρ c main_arg2 (by decide)]

theorem W4_dist : W4 m ρ c (Proc.devRef .tc main_v56) = distOf (F := F) (m ((c.tc : Thread nD τ).loc main_arg0)) := by
  rw [W4_v56, W3_v20]
  refine congrArg (distances _) ?_
  refine (host1_v55 (W2 m ρ c)).trans ?_
  rw [W2_args m ρ c main_arg0 (by decide)]

theorem W5_v20 : W5 m ρ c (Proc.devRef .tc main_v20)
    = pick3 (F := F) (m ((c.tc : Thread nD τ).loc main_arg0)) (rowsOf (F := F) (m ((c.tc : Thread nD τ).loc main_arg0))) := by
  rw [W5_of m ρ c main_v20 (by decide), W4_of m ρ c main_v20 (by decide), W3_v20]

theorem W5_v37 : W5 m ρ c (Proc.devRef .tc main_v37)
    = pick128 (F := F) (m ((c.tc : Thread nD τ).loc main_arg1)) (rowsOf (F := F) (m ((c.tc : Thread nD τ).loc main_arg0))) := by
  rw [W5_of m ρ c main_v37 (by decide), W4_of m ρ c main_v37 (by decide), W3_v37]

theorem W5_v54 : W5 m ρ c (Proc.devRef .tc main_v54)
    = pick3 (F := F) (m ((c.tc : Thread nD τ).loc main_arg2)) (rowsOf (F := F) (m ((c.tc : Thread nD τ).loc main_arg0))) := by
  rw [W5_of m ρ c main_v54 (by decide), W4_of m ρ c main_v54 (by decide), W3_v54]

theorem W5_v74 : W5 m ρ c (Proc.devRef .tc main_v74)
    = near3 (F := F) (m ((c.tc : Thread nD τ).loc main_arg0)) (distOf (F := F) (m ((c.tc : Thread nD τ).loc main_arg0))) := by
  refine (host2_v74 (W4 m ρ c)).trans ?_
  rw [W4_dist, W4_args m ρ c main_arg0 (by decide)]

theorem W5_v91 : W5 m ρ c (Proc.devRef .tc main_v91)
    = near128 (F := F) (m ((c.tc : Thread nD τ).loc main_arg1)) (distOf (F := F) (m ((c.tc : Thread nD τ).loc main_arg0))) := by
  refine (host2_v91 (W4 m ρ c)).trans ?_
  rw [W4_dist, W4_args m ρ c main_arg1 (by decide)]

theorem W5_v108 : W5 m ρ c (Proc.devRef .tc main_v108)
    = near3 (F := F) (m ((c.tc : Thread nD τ).loc main_arg2)) (distOf (F := F) (m ((c.tc : Thread nD τ).loc main_arg0))) := by
  refine (host2_v108 (W4 m ρ c)).trans ?_
  rw [W4_dist, W4_args m ρ c main_arg2 (by decide)]

/-! ## The run -/

local notation "𝕄" => MT nD τ sig Unit (Elt F) ℕ (UR sig nD τ) ℕ

/-- What a run ends with: the six results, and the arguments as launched. -/
def Post (r : PUnit × MemSt nD τ sig (Elt F)) : Prop := ∀ c : Dev nD,
  r.2.mem ((c.tc : Thread nD τ).loc main_v20) = pick3 (F := F) (m ((c.tc : Thread nD τ).loc main_arg0)) (rowsOf (F := F) (m ((c.tc : Thread nD τ).loc main_arg0)))
  ∧ r.2.mem ((c.tc : Thread nD τ).loc main_v37) = pick128 (F := F) (m ((c.tc : Thread nD τ).loc main_arg1)) (rowsOf (F := F) (m ((c.tc : Thread nD τ).loc main_arg0)))
  ∧ r.2.mem ((c.tc : Thread nD τ).loc main_v54) = pick3 (F := F) (m ((c.tc : Thread nD τ).loc main_arg2)) (rowsOf (F := F) (m ((c.tc : Thread nD τ).loc main_arg0)))
  ∧ r.2.mem ((c.tc : Thread nD τ).loc main_v74) = near3 (F := F) (m ((c.tc : Thread nD τ).loc main_arg0)) (distOf (F := F) (m ((c.tc : Thread nD τ).loc main_arg0)))
  ∧ r.2.mem ((c.tc : Thread nD τ).loc main_v91) = near128 (F := F) (m ((c.tc : Thread nD τ).loc main_arg1)) (distOf (F := F) (m ((c.tc : Thread nD τ).loc main_arg0)))
  ∧ r.2.mem ((c.tc : Thread nD τ).loc main_v108) = near3 (F := F) (m ((c.tc : Thread nD τ).loc main_arg2)) (distOf (F := F) (m ((c.tc : Thread nD τ).loc main_arg0)))
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)

set_option backward.isDefEq.respectTransparency.types false in
/-- THE RUN: from any memory, every weakly fair execution terminates without fault in `Post`. -/
theorem run : θ_run defs (onTc (τ := τ) (main (F := F))) ⟨m, fun _ => 0, ρ⟩ (Post m) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v20 (by decide))).trans (W5_v20 m ρ c),
       (h c _ (mem_uc main_v37 (by decide))).trans (W5_v37 m ρ c),
       (h c _ (mem_uc main_v54 (by decide))).trans (W5_v54 m ρ c),
       (h c _ (mem_uc main_v74 (by decide))).trans (W5_v74 m ρ c),
       (h c _ (mem_uc main_v91 (by decide))).trans (W5_v91 m ρ c),
       (h c _ (mem_uc main_v108 (by decide))).trans (W5_v108 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Run

end

end
-- ==== Proof.KnnMath.lean ====
/- Over the reals the second kernel's distances are the reference's. -/
module

public import proofs.«01_k».proof.Proof.KernelRun
public import Idealize.ShloMosaic.Lib.Pointwise

@[expose] public section

set_option maxRecDepth 16384

noncomputable section

namespace Cert.KernelIdeal.Run

open Cert.KernelIdeal Cert.KernelIdeal.Gen
open Idealize.ShloMosaic
open Cert.ReferenceIdeal.Run (squareDist)

/-- The squared distances the second kernel computes block by block are the reference's, from the same picked points and
    the same points laid out the other way round. -/
theorem distances_eq (a : FVec Ideal S4x2048x3 .f32) (x : FVec Ideal S4x8192x3 .f32) :
    distances (F := Ideal) a (transpose S4x3x8192 [0, 2, 1] x transposes_S4x8192x3_S4x3x8192_0_2_1) = squareDist a x := by
  funext i
  have hrow : ∀ h, (⟨256 * ((i 1).val / 256) + (i 1).val % 256, h⟩ : Fin 2048) = i 1 :=
    fun _ => Fin.ext (Nat.div_add_mod _ _)
  pointwise [distances, k1_pay1, rowBlock, batchBlock, squareDist, Fin.sum_univ_three, hrow]
  rfl

end Cert.KernelIdeal.Run
-- ==== Proof.FpsMath.lean ====
/- Over the reals one round of the first kernel is one round of the reference's loop: what each side's operations hold at
   an entry. -/
module

public import proofs.«01_k».proof.Proof.KernelRun
public import Idealize.ShloMosaic.Lib.Pointwise
public import Idealize.ShloMosaic.Lib.WordArith.Masks
public import Idealize.ShloMosaic.Lib.Routing.OpsPair

@[expose] public section

set_option maxRecDepth 16384

noncomputable section

open Idealize.ShloMosaic

/-! ## The reference's round -/

namespace Cert.ReferenceIdeal.Run

open Cert.ReferenceIdeal Cert.ReferenceIdeal.Gen

/-- A chosen index that lies in a row of 8192 entries is its own wrapped form. -/
theorem rowAndIndex_index (far : IVec S4 32) (b : Fin 4) (h : (far (ix1 b)).toNat < 8192) :
    rowAndIndex far (ix2 b 1) = far (ix1 b) := by
  pointwise [rowAndIndex, wrapped]
  exact Routing.wrap_of_lt _ _ (by omega)

/-- The row number is its own wrapped form. -/
theorem rowAndIndex_row (far : IVec S4 32) (b : Fin 4) : rowAndIndex far (ix2 b 0) = BitVec.ofNat 32 b := by
  pointwise [rowAndIndex, wrapped]
  exact Routing.wrap_of_lt _ _ (by rw [BitVec.toNat_ofNat]; omega)

/-- The chosen point of a row is the point at the chosen index. -/
theorem chosen_apply (x : FVec Ideal S4x8192x3 .f32) (far : IVec S4 32) (b : Fin 4) (e : Fin 3)
    (h : (far (ix1 b)).toNat < 8192) : chosen x far (ix2 b e) = x (ix3 b ⟨(far (ix1 b)).toNat, h⟩ e) := by
  unfold chosen Host.gather
  congr 1
  funext a
  refine Fin.ext ?_
  have hrow : gather_S4x8192x3_S4x2_S4x3_1_01_n_n_01_1_113.siIdx (ix2 b e) ⟨0, by decide⟩ = ix2 b 0 := by
    funext k; refine Fin.ext ?_
    match k with
    | ⟨0, _⟩ => rfl
    | ⟨1, _⟩ => rfl
  have hidx : gather_S4x8192x3_S4x2_S4x3_1_01_n_n_01_1_113.siIdx (ix2 b e) ⟨1, by decide⟩ = ix2 b 1 := by
    funext k; refine Fin.ext ?_
    match k with
    | ⟨0, _⟩ => rfl
    | ⟨1, _⟩ => rfl
  match a with
  | ⟨0, _⟩ =>
    show min (rowAndIndex far (gather_S4x8192x3_S4x2_S4x3_1_01_n_n_01_1_113.siIdx (ix2 b e) ⟨0, by decide⟩)).toInt.toNat 3 + 0 + 0 = b.val
    rw [hrow, rowAndIndex_row, BitVec.toInt_eq_toNat_of_lt (by rw [BitVec.toNat_ofNat]; omega), BitVec.toNat_ofNat]
    omega
  | ⟨1, _⟩ =>
    show min (rowAndIndex far (gather_S4x8192x3_S4x2_S4x3_1_01_n_n_01_1_113.siIdx (ix2 b e) ⟨1, by decide⟩)).toInt.toNat 8191 + 0 + 0 = (far (ix1 b)).toNat
    rw [hidx, rowAndIndex_index far b h, BitVec.toInt_eq_toNat_of_lt (by omega)]
    omega
  | ⟨2, _⟩ =>
    show 0 + 0 + e.val = e.val
    omega

/-- The new distance at an entry: the old one, or the squared distance to the chosen point if that is less. -/
theorem nextDist_apply (x : FVec Ideal S4x8192x3 .f32) (d : FVec Ideal S4x8192 .f32) (far : IVec S4 32) (b : Fin 4) (n : Fin 8192) :
    (nextDist x d far (ix2 b n) : EReal)
      = min (d (ix2 b n)) ((x (ix3 b n 0) - chosen x far (ix2 b 0)) * (x (ix3 b n 0) - chosen x far (ix2 b 0))
          + (x (ix3 b n 1) - chosen x far (ix2 b 1)) * (x (ix3 b n 1) - chosen x far (ix2 b 1))
          + (x (ix3 b n 2) - chosen x far (ix2 b 2)) * (x (ix3 b n 2) - chosen x far (ix2 b 2))) := by
  pointwise [nextDist, offsets, Fin.sum_univ_three]

/-- Whether a pair of a value and an index comes after another in the order of the maximum: a lesser value, or the same
    value at an index not below. -/
def After (p q : EReal × BitVec 32) : Prop := p.1 < q.1 ∨ p.1 = q.1 ∧ q.2.toInt ≤ p.2.toInt

theorem After.refl (p : EReal × BitVec 32) : After p p := .inr ⟨rfl, le_refl _⟩

theorem After.trans {p q r : EReal × BitVec 32} (h : After p q) (h' : After q r) : After p r := by
  rcases h with h | ⟨h, i⟩ <;> rcases h' with h' | ⟨h', i'⟩
  · exact .inl (h.trans h')
  · exact .inl (h' ▸ h)
  · exact .inl (h ▸ h')
  · exact .inr ⟨h.trans h', i'.trans i⟩

/-- The reducer keeps one of its two pairs, and both come after the kept one or are it. -/
theorem reducer_spec (p q : EReal × BitVec 32) :
    (reducer_argmax_f32_i32 (F := Ideal) p q = p ∨ reducer_argmax_f32_i32 (F := Ideal) p q = q)
      ∧ After p (reducer_argmax_f32_i32 (F := Ideal) p q) ∧ After q (reducer_argmax_f32_i32 (F := Ideal) p q) := by
  obtain ⟨a, i⟩ := p
  obtain ⟨b, j⟩ := q
  have key : reducer_argmax_f32_i32 (F := Ideal) (a, i) (b, j)
      = if b < a ∨ a = b ∧ i.toInt < j.toInt then (a, i) else (b, j) := by
    unfold reducer_argmax_f32_i32
    by_cases h1 : b < a
    · simp only [Ideal.cmpf_def, Ideal.cmp, h1, IntOp.ori, Scalar.select, true_or, if_true, decide_true, BitVec.ofBool_true]
      generalize IntOp.andi _ _ = w
      generalize BitVec.ofBool _ = u
      rcases BitVec.eq_zero_or_eq_one w with rfl | rfl <;> rcases BitVec.eq_zero_or_eq_one u with rfl | rfl <;> rfl
    · by_cases h2 : a = b
      · by_cases h3 : i.toInt < j.toInt
        · simp [Ideal.cmpf_def, Ideal.cmp, h2, h3, IntOp.ori, IntOp.andi, IntOp.cmpi, Scalar.select, BitVec.slt]
        · simp [Ideal.cmpf_def, Ideal.cmp, h2, h3, IntOp.ori, IntOp.andi, IntOp.cmpi, Scalar.select, BitVec.slt]
      · simp [Ideal.cmpf_def, Ideal.cmp, h1, h2, IntOp.ori, IntOp.andi, Scalar.select]
  rw [key]
  split_ifs with h
  · refine ⟨.inl rfl, After.refl _, ?_⟩
    rcases h with h | ⟨h, h'⟩
    · exact .inl h
    · exact .inr ⟨h.symm, h'.le⟩
  · refine ⟨.inr rfl, ?_, After.refl _⟩
    have h1 : a ≤ b := not_lt.1 fun hb => h (.inl hb)
    rcases h1.lt_or_eq with h1 | h1
    · exact .inl h1
    · exact .inr ⟨h1, not_lt.1 fun h2 => h (.inr ⟨h1, h2⟩)⟩

/-- A fold of the reducer keeps the start or one of the list's pairs, and all of them come after the kept one or are it. -/
theorem foldl_reducer_spec (l : List (EReal × BitVec 32)) (p : EReal × BitVec 32) :
    (l.foldl (reducer_argmax_f32_i32 (F := Ideal)) p = p ∨ l.foldl (reducer_argmax_f32_i32 (F := Ideal)) p ∈ l)
      ∧ After p (l.foldl (reducer_argmax_f32_i32 (F := Ideal)) p)
      ∧ ∀ q ∈ l, After q (l.foldl (reducer_argmax_f32_i32 (F := Ideal)) p) := by
  induction l generalizing p with
  | nil => exact ⟨.inl rfl, After.refl _, fun q hq => absurd hq List.not_mem_nil⟩
  | cons a l ih =>
    obtain ⟨h1, h2, h3⟩ := ih (reducer_argmax_f32_i32 (F := Ideal) p a)
    obtain ⟨g1, g2, g3⟩ := reducer_spec p a
    rw [List.foldl_cons]
    refine ⟨?_, g2.trans h2, fun q hq => ?_⟩
    · rcases h1 with h1 | h1
      · rcases g1 with g1 | g1
        · exact .inl (h1.trans g1)
        · exact .inr (by rw [h1.trans g1]; exact List.mem_cons_self)
      · exact .inr (List.mem_cons_of_mem _ h1)
    · rcases List.mem_cons.1 hq with rfl | hq
      · exact g3.trans h2
      · exact h3 q hq

/-- The pairs one row's arg-max folds over. -/
theorem mem_fiber (d : FVec Ideal S4x8192 .f32) (b : Fin 4) (p : EReal × BitVec 32) :
    p ∈ Host.argReduceFiber d (iotaInDim S4x8192 32 1) reducesTo_S4x8192_S4_d1 (ix1 b)
      ↔ ∃ n : Fin 8192, p = (d (ix2 b n), BitVec.ofNat 32 n) := by
  unfold Host.argReduceFiber
  simp only [List.mem_map, List.mem_filter, List.mem_finRange, true_and, decide_eq_true_eq]
  constructor
  · rintro ⟨k, hk, rfl⟩
    obtain ⟨n, hn⟩ := (Shape.ReducesTo.fiber_r2_a1 reducesTo_S4x8192_S4_d1 (ix1 b) _).1 hk
    refine ⟨n, ?_⟩
    rw [← hn]
    rfl
  · rintro ⟨n, rfl⟩
    refine ⟨S4x8192.rowMajor (ix2 b n), ?_, ?_⟩
    · rw [Equiv.symm_apply_apply]
      exact (Shape.ReducesTo.fiber_r2_a1 reducesTo_S4x8192_S4_d1 (ix1 b) _).2 ⟨n, rfl⟩
    · rw [Equiv.symm_apply_apply]
      rfl

/-- The next chosen index of a row is the first one at which the row's distances are greatest. -/
theorem nextFar_spec (d : FVec Ideal S4x8192 .f32) (b : Fin 4) :
    ∃ n : Fin 8192, nextFar d (ix1 b) = BitVec.ofNat 32 n
      ∧ ∀ p : Fin 8192, (d (ix2 b p) : EReal) < d (ix2 b n) ∨ (d (ix2 b p) : EReal) = d (ix2 b n) ∧ n ≤ p := by
  have hinit : Ideal.ofBits .f32 0xFF800000#32 = ⊥ := by simp [Ideal.ofBits, Ideal.ieee]
  have hnat : ∀ p : Fin 8192, (BitVec.ofNat 32 p).toInt = p := fun p => by
    rw [BitVec.toInt_eq_toNat_of_lt (by rw [BitVec.toNat_ofNat]; omega), BitVec.toNat_ofNat]
    omega
  obtain ⟨h1, h2, h3⟩ := foldl_reducer_spec (Host.argReduceFiber d (iotaInDim S4x8192 32 1) reducesTo_S4x8192_S4_d1 (ix1 b))
    (Ideal.ofBits .f32 0xFF800000#32, 0#32)
  have e : nextFar d (ix1 b) = (List.foldl (reducer_argmax_f32_i32 (F := Ideal)) (Ideal.ofBits .f32 0xFF800000#32, 0#32)
      (Host.argReduceFiber d (iotaInDim S4x8192 32 1) reducesTo_S4x8192_S4_d1 (ix1 b))).2 := by
    unfold nextFar
    rw [Ideal.argReduce_eq_reduce2, Host.reduce2_eq_foldl_fiber]
    rfl
  rw [e]
  generalize List.foldl (reducer_argmax_f32_i32 (F := Ideal)) (Ideal.ofBits .f32 0xFF800000#32, 0#32)
      (Host.argReduceFiber d (iotaInDim S4x8192 32 1) reducesTo_S4x8192_S4_d1 (ix1 b)) = r at h1 h2 h3
  have hr : ∃ n : Fin 8192, r = (d (ix2 b n), BitVec.ofNat 32 n) := by
    rcases h1 with h1 | h1
    · refine ⟨0, ?_⟩
      have := h3 _ ((mem_fiber d b _).2 ⟨0, rfl⟩)
      rw [h1, hinit] at this ⊢
      rcases this with h | ⟨h, -⟩
      · exact absurd h not_lt_bot
      · exact Prod.ext h.symm rfl
    · exact (mem_fiber d b r).1 h1
  obtain ⟨n, rfl⟩ := hr
  refine ⟨n, rfl, fun p => ?_⟩
  rcases h3 _ ((mem_fiber d b _).2 ⟨p, rfl⟩) with h | ⟨h, h'⟩
  · exact .inl h
  · refine .inr ⟨h, ?_⟩
    rw [hnat, hnat] at h'
    exact Fin.le_def.2 (by omega)

/-- The index array after trip `k` holds the chosen indices in row `k`, and what it held elsewhere. -/
theorem nextRows_apply (rows : IVec S2048x4 32) (far : IVec S4 32) (k : ℕ) (hk : k < 2048) (y : S2048x4.Idx) :
    nextRows rows far (fun _ => Scf.iv 0#32 1#32 k) y = if (y 0).val = k then far (ix1 (y 1)) else rows y := by
  have hiv : (Scf.iv 0#32 1#32 k).toInt = k := by
    have := WordArith.toNat_iv_zero_one k (by omega)
    rw [BitVec.toInt_eq_toNat_of_lt (by omega), this]
  have h0 : Host.clampedStart S2048x4 S1x4 rfl
      (fun a => ((![fun _ => Scf.iv 0#32 1#32 k, constantI S_ 32 0#32] : Fin 2 → IVec S_ 32) a (Shape.Idx.first h_S_)).toInt) 0 = k :=
    Host.clampedStart_of_le _ _ _ _ hiv (by show k + 1 ≤ 2048; omega)
  have h1 : Host.clampedStart S2048x4 S1x4 rfl
      (fun a => ((![fun _ => Scf.iv 0#32 1#32 k, constantI S_ 32 0#32] : Fin 2 → IVec S_ 32) a (Shape.Idx.first h_S_)).toInt) 1 = 0 :=
    Host.clampedStart_of_le _ _ _ _ rfl (by show 0 + 4 ≤ 4; omega)
  pointwise [nextRows, h0, h1]
  split_ifs <;> first | rfl | omega

end Cert.ReferenceIdeal.Run

/-! ## The kernel's round -/

namespace Cert.KernelIdeal.Run

open Cert.KernelIdeal Cert.KernelIdeal.Gen

/-- Which of a batch's 8192 points lies at row `r` and lane `l` of its 64 rows of 128. -/
def entry (r : Fin 64) (l : Fin 128) : Fin 8192 := ⟨r.val * 128 + l.val, by omega⟩

/-- Every one of the 8192 points lies at some row and lane. -/
theorem entry_surj (n : Fin 8192) : ∃ r l, entry r l = n :=
  ⟨⟨n.val / 128, by omega⟩, ⟨n.val % 128, by omega⟩, Fin.ext (by show n.val / 128 * 128 + n.val % 128 = n.val; omega)⟩

theorem entry_inj {r r' : Fin 64} {l l' : Fin 128} (h : entry r l = entry r' l') : r = r' ∧ l = l' := by
  have h' : r.val * 128 + l.val = r'.val * 128 + l'.val := congrArg Fin.val h
  exact ⟨Fin.ext (by omega), Fin.ext (by omega)⟩

/-- The kernel's number of a point is its place in the row-major order of rows and lanes. -/
theorem index_apply (b : Fin 4) (r : Fin 64) (l : Fin 128) : k0_pay1 (ix3 b r l) = BitVec.ofNat 32 (entry r l) := by
  pointwise [k0_pay1]
  apply BitVec.eq_of_toNat_eq
  show ((BitVec.ofNat 32 r.val * 128#32) + BitVec.ofNat 32 l.val).toNat = (BitVec.ofNat 32 (r.val * 128 + l.val)).toNat
  simp only [BitVec.toNat_add, BitVec.toNat_mul, BitVec.toNat_ofNat]
  omega

/-- A plane of the points at a row and lane. -/
theorem plane_apply (x : FVec Ideal S4x8192x3 .f32) (d : Fin 3) (b : Fin 4) (r : Fin 64) (l : Fin 128) :
    (plane (F := Ideal) d (planes x) (ix4 0 b r l) : EReal) = x (ix3 b (entry r l) d) := by
  pointwise [plane, planes]
  rfl

/-- A sum over all rows and lanes of the entries times "this is the point numbered `n`" is the entry of that point. -/
theorem oneHot_sum (v : Fin 64 → Fin 128 → EReal) (b : Fin 4) (r : Fin 64) (l : Fin 128) :
    (∑ r', ∑ l', v r' l' * FloatOps.sitofp (F := Ideal) .f32
      (BitVec.setWidth 32 (IntOp.cmpi .eq (k0_pay1 (ix3 b r' l')) (BitVec.ofNat 32 (entry r l))))) = v r l := by
  have hit : ∀ r' l', (FloatOps.sitofp (F := Ideal) .f32
      (BitVec.setWidth 32 (IntOp.cmpi .eq (k0_pay1 (ix3 b r' l')) (BitVec.ofNat 32 (entry r l)))) : EReal)
        = if r' = r ∧ l' = l then 1 else 0 := by
    intro r' l'
    rw [index_apply]
    by_cases h : r' = r ∧ l' = l
    · rw [if_pos h, h.1, h.2]
      show (((BitVec.setWidth 32 (IntOp.cmpi .eq _ _)).toInt : ℝ) : EReal) = 1
      simp [IntOp.cmpi]
    · have hne : BitVec.ofNat 32 (entry r' l') ≠ BitVec.ofNat 32 (entry r l) := fun e => h (entry_inj (Fin.ext (by
        have := congrArg BitVec.toNat e
        simp only [BitVec.toNat_ofNat] at this
        omega)))
      rw [if_neg h]
      show (((BitVec.setWidth 32 (IntOp.cmpi .eq _ _)).toInt : ℝ) : EReal) = 0
      simp [IntOp.cmpi, beq_eq_false_iff_ne.2 hne]
  simp only [hit]
  rw [Finset.sum_eq_single r, Finset.sum_eq_single l]
  · simp
  · intro l' _ h; simp [h]
  · intro h; exact absurd (Finset.mem_univ _) h
  · intro r' _ h; simp [h]
  · intro h; exact absurd (Finset.mem_univ _) h

/-- The kernel's new distance at a row and lane: the old one, or the squared distance to the chosen point if that is less. -/
theorem nextDist_apply (p0 p1 p2 : FVec Ideal S1x4x64x128 .f32) (d : FVec Ideal S4x64x128 .f32) (f : IVec S4x1x1 32)
    (b : Fin 4) (r r' : Fin 64) (l l' : Fin 128) (hf : f (ix3 b 0 0) = BitVec.ofNat 32 (entry r' l')) :
    (k0_pay5 (F := Ideal) p0 p1 p2 d f (ix3 b r l) : EReal)
      = min (d (ix3 b r l)) ((p0 (ix4 0 b r l) - p0 (ix4 0 b r' l')) * (p0 (ix4 0 b r l) - p0 (ix4 0 b r' l'))
          + (p2 (ix4 0 b r l) - p2 (ix4 0 b r' l')) * (p2 (ix4 0 b r l) - p2 (ix4 0 b r' l'))
          + (p1 (ix4 0 b r l) - p1 (ix4 0 b r' l')) * (p1 (ix4 0 b r l) - p1 (ix4 0 b r' l'))) := by
  pointwise [k0_pay5]
  rw [hf, oneHot_sum (fun r l => p0 (ix4 0 b r l)), oneHot_sum (fun r l => p1 (ix4 0 b r l)), oneHot_sum (fun r l => p2 (ix4 0 b r l))]

/-- A fold of the signed minimum is the start or one of the values where a value is not above any and not above the start. -/
theorem fold_minsi_eq {ι : Type} (s : Finset ι) (f : ι → BitVec 32) (c : BitVec 32) (i : ι) (hi : i ∈ s)
    (hc : (f i).toInt ≤ c.toInt) (h : ∀ k ∈ s, (f i).toInt ≤ (f k).toInt) : s.fold IntOp.minsi c f = f i := by
  have toInt_minsi : ∀ a b : BitVec 32, (IntOp.minsi a b).toInt = min a.toInt b.toInt := fun a b => by
    simp only [IntOp.minsi, BitVec.slt, decide_eq_true_eq]; split_ifs <;> omega
  have below : ∀ t : Finset ι, (∀ k ∈ t, (f i).toInt ≤ (f k).toInt) → (f i).toInt ≤ (t.fold IntOp.minsi c f).toInt := by
    intro t
    induction t using Finset.cons_induction with
    | empty => intro _; simpa using hc
    | cons a t ha ih =>
      intro ht
      rw [Finset.fold_cons, toInt_minsi]
      exact le_min (ht a (Finset.mem_cons_self a t)) (ih fun k hk => ht k (Finset.mem_cons_of_mem hk))
  have above : ∀ t : Finset ι, ∀ k ∈ t, (t.fold IntOp.minsi c f).toInt ≤ (f k).toInt := by
    intro t
    induction t using Finset.cons_induction with
    | empty => intro k hk; exact absurd hk (Finset.notMem_empty k)
    | cons a t ha ih =>
      intro k hk
      rw [Finset.fold_cons, toInt_minsi]
      rcases Finset.mem_cons.1 hk with rfl | hk
      · exact min_le_left _ _
      · exact (min_le_right _ _).trans (ih k hk)
  exact BitVec.eq_of_toInt_eq (le_antisymm (above s i hi) (below s h))

/-- The kernel's next chosen index of a batch is the first one at which the batch's distances are greatest. -/
theorem nextFar_apply (p0 p1 p2 : FVec Ideal S1x4x64x128 .f32) (d : FVec Ideal S4x64x128 .f32) (f : IVec S4x1x1 32)
    (b : Fin 4) (r : Fin 64) (l : Fin 128)
    (h : ∀ r' l', (k0_pay5 (F := Ideal) p0 p1 p2 d f (ix3 b r' l') : EReal) < k0_pay5 (F := Ideal) p0 p1 p2 d f (ix3 b r l)
      ∨ (k0_pay5 (F := Ideal) p0 p1 p2 d f (ix3 b r' l') : EReal) = k0_pay5 (F := Ideal) p0 p1 p2 d f (ix3 b r l)
        ∧ entry r l ≤ entry r' l') :
    k0_pay6 (F := Ideal) p0 p1 p2 d f (ix3 b 0 0) = BitVec.ofNat 32 (entry r l) := by
  unfold k0_pay6
  generalize k0_pay5 (F := Ideal) p0 p1 p2 d f = D at h ⊢
  have hinit : Ideal.ofBits .f32 0xFF800000#32 = ⊥ := by simp [Ideal.ofBits, Ideal.ieee]
  have hnat : ∀ p : Fin 8192, (BitVec.ofNat 32 p).toInt = p := fun p => by
    rw [BitVec.toInt_eq_toNat_of_lt (by rw [BitVec.toNat_ofNat]; omega), BitVec.toNat_ofNat]
    omega
  have hmax : Finset.fold max (Ideal.ofBits .f32 0xFF800000#32) (fun q : Fin 64 × Fin 128 => (D (ix3 b q.1 q.2) : EReal)) Finset.univ
      = D (ix3 b r l) := by
    apply le_antisymm
    · rw [Finset.fold_max_le, hinit]
      refine ⟨bot_le, fun q _ => ?_⟩
      rcases h q.1 q.2 with h | ⟨h, -⟩
      · exact h.le
      · exact h.le
    · rw [Finset.le_fold_max]
      exact .inr ⟨(r, l), Finset.mem_univ _, le_refl _⟩
  pointwise
  rw [hmax]
  refine (fold_minsi_eq Finset.univ _ _ (r, l) (Finset.mem_univ _) ?_ ?_).trans ?_
  · rw [if_pos rfl, index_apply, hnat]
    show ((entry r l).val : ℤ) ≤ 2147483647
    omega
  · intro q _
    rw [if_pos rfl, index_apply, hnat]
    split_ifs with hq
    · rw [index_apply, hnat]
      rcases h q.1 q.2 with h | ⟨-, h⟩
      · exact absurd hq h.ne
      · exact_mod_cast h
    · show ((entry r l).val : ℤ) ≤ 8192
      omega
  · rw [if_pos rfl, index_apply]

/-- The row of the index array a trip writes holds the batches' chosen indices. -/
theorem stored_row_apply (f : IVec S4x1x1 32) (i : S1x4.Idx) : k0_pay4 f i = f (ix3 (i 1) 0 0) := by
  pointwise [k0_pay4]

end Cert.KernelIdeal.Run

end
-- ==== Proof.FpsLoop.lean ====
/- Over the reals the first kernel's index array is the reference's: the two loops carry the same values trip by trip. -/
module

public import proofs.«01_k».proof.Proof.FpsMath
public import proofs.«01_k».proof.Proof.RefResults

@[expose] public section

set_option maxRecDepth 16384

noncomputable section

namespace Cert.KernelIdeal.Run

open Cert.KernelIdeal Cert.KernelIdeal.Gen
open Idealize.ShloMosaic
open Cert.ReferenceIdeal (S4x8192)
open Cert.ReferenceIdeal.Run (carried carried_succ nextDist nextFar nextRows chosen)

/-- What the kernel carries before trip `k`, from the points. -/
abbrev kernelState (x : FVec Ideal S4x8192x3 .f32) (k : ℕ) : FVec Ideal S4x64x128 .f32 × IVec S4x1x1 32 :=
  state (F := Ideal) (plane 0 (planes x)) (plane 1 (planes x)) (plane 2 (planes x)) k

/-- The two loops carry the same: the distance of each point, and the chosen index of each batch, which is a point's number. -/
def Same (d : FVec Ideal S4x64x128 .f32) (f : IVec S4x1x1 32) (d' : FVec Ideal S4x8192 .f32) (f' : IVec S4 32) : Prop :=
  (∀ b r l, (d (ix3 b r l) : EReal) = d' (ix2 b (entry r l)))
    ∧ ∀ b : Fin 4, ∃ n : Fin 8192, f' (ix1 b) = BitVec.ofNat 32 n ∧ f (ix3 b 0 0) = BitVec.ofNat 32 n

/-- One trip of either loop from the same carried values leaves the same carried values. -/
theorem Same.step (x : FVec Ideal S4x8192x3 .f32) {d : FVec Ideal S4x64x128 .f32} {f : IVec S4x1x1 32}
    {d' : FVec Ideal S4x8192 .f32} {f' : IVec S4 32} (h : Same d f d' f') :
    Same (k0_pay5 (F := Ideal) (plane 0 (planes x)) (plane 1 (planes x)) (plane 2 (planes x)) d f)
      (k0_pay6 (F := Ideal) (plane 0 (planes x)) (plane 1 (planes x)) (plane 2 (planes x)) d f)
      (nextDist x d' f') (nextFar (nextDist x d' f')) := by
  have hd : ∀ b r l, (k0_pay5 (F := Ideal) (plane 0 (planes x)) (plane 1 (planes x)) (plane 2 (planes x)) d f (ix3 b r l) : EReal)
      = nextDist x d' f' (ix2 b (entry r l)) := by
    intro b r l
    obtain ⟨n, hn', hn⟩ := h.2 b
    obtain ⟨r', l', rfl⟩ := entry_surj n
    have hlt : (f' (ix1 b)).toNat = entry r' l' := by
      rw [hn', BitVec.toNat_ofNat]
      omega
    have hc : ∀ e, (chosen x f' (ix2 b e) : EReal) = x (ix3 b (entry r' l') e) := fun e => by
      rw [Cert.ReferenceIdeal.Run.chosen_apply x f' b e (by omega)]
      exact congrArg (fun n => x (ix3 b n e)) (Fin.ext hlt)
    rw [nextDist_apply _ _ _ d f b r r' l l' hn, Cert.ReferenceIdeal.Run.nextDist_apply, h.1 b r l]
    simp only [plane_apply, hc]
    rw [add_right_comm]
  refine ⟨hd, fun b => ?_⟩
  obtain ⟨n, hn, hmax⟩ := Cert.ReferenceIdeal.Run.nextFar_spec (nextDist x d' f') b
  obtain ⟨r, l, rfl⟩ := entry_surj n
  refine ⟨entry r l, hn, nextFar_apply _ _ _ d f b r l fun r' l' => ?_⟩
  rw [hd b r' l', hd b r l]
  exact hmax (entry r' l')

/-- The two loops carry the same values before every trip. -/
theorem same (x : FVec Ideal S4x8192x3 .f32) (k : ℕ) :
    Same (kernelState x k).1 (kernelState x k).2 (carried x k).1 (carried x k).2.1 := by
  induction k with
  | zero =>
    refine ⟨fun b r l => ?_, fun b => ⟨0, ?_, ?_⟩⟩
    · show (k0_pay2 (F := Ideal) (ix3 b r l) : EReal) = _
      pointwise [k0_pay2, carried]
    · pointwise [carried]
    · show k0_pay3 (ix3 b 0 0) = 0#32
      pointwise [k0_pay3]
  | succ k ih =>
    have h := ih.step x
    have e : kernelState x (k + 1)
        = (k0_pay5 (F := Ideal) (plane 0 (planes x)) (plane 1 (planes x)) (plane 2 (planes x)) (kernelState x k).1 (kernelState x k).2,
          k0_pay6 (F := Ideal) (plane 0 (planes x)) (plane 1 (planes x)) (plane 2 (planes x)) (kernelState x k).1 (kernelState x k).2) := by
      rw [kernelState, state]
    rw [carried_succ, e]
    dsimp only
    exact h

/-- The reference's index array after `k` trips holds in each earlier row the indices carried into that trip. -/
theorem carried_rows (x : FVec Ideal S4x8192x3 .f32) (k : ℕ) (hk : k ≤ 2048) (y : Cert.ReferenceIdeal.S2048x4.Idx) (hy : (y 0).val < k) :
    (carried x k).2.2 y = (carried x (y 0).val).2.1 (ix1 (y 1)) := by
  induction k with
  | zero => exact absurd hy (Nat.not_lt_zero _)
  | succ k ih =>
    rw [carried_succ]
    show nextRows (carried x k).2.2 (carried x k).2.1 (fun _ => Scf.iv 0#32 1#32 k) y = _
    rw [Cert.ReferenceIdeal.Run.nextRows_apply _ _ k (by omega)]
    split_ifs with h
    · rw [h]
    · exact ih (by omega) (by omega)

/-- The kernel's index array is the reference's. -/
theorem rowsOf_eq (x : FVec Ideal S4x8192x3 .f32) : rowsOf (F := Ideal) x = Cert.ReferenceIdeal.Run.rowsOf x := by
  funext y
  obtain ⟨n, h', h⟩ := (same x (y 0).val).2 (y 1)
  have e : (Cert.ReferenceIdeal.Run.rowsOf x) y = (carried x (y 0).val).2.1 (ix1 (y 1)) :=
    carried_rows x 2048 le_rfl y (y 0).isLt
  rw [e, h']
  refine (stored_row_apply _ _).trans ?_
  exact h

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefResults
public import proofs.«01_k».proof.Proof.KernelRun
public import proofs.«01_k».proof.Proof.KnnMath
public import proofs.«01_k».proof.Proof.FpsLoop
public import Idealize.ShloMosaic.Adequacy
public import Idealize.ShloMosaic.Init

@[expose] public section

noncomputable section

namespace Cert.Proof

open Idealize.ShloMosaic Idealize.SL.Sem

/-- Over the reals the kernel's distances from its picked points to all points are the reference's. -/
theorem distOf_eq (x : FVec Ideal Cert.KernelIdeal.S4x8192x3 .f32) :
    Cert.KernelIdeal.Run.distOf (F := Ideal) x = Cert.ReferenceIdeal.Run.distOf (F := Ideal) x := by
  unfold Cert.KernelIdeal.Run.distOf
  rw [Cert.KernelIdeal.Run.rowsOf_eq x, Cert.KernelIdeal.Run.distances_eq]
  rfl

/-- Over the reals the kernel and the reference leave the same six results from the same arguments. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨_, _, _, _, _, _, Cert.KernelIdeal.Run.run (F := Ideal) m g, ?_⟩
  refine (θ_run Cert.ReferenceIdeal.defs _ _).mono (fun r h c => ?_) (Cert.ReferenceIdeal.Run.run (F := Ideal) m' g')
  obtain ⟨h0, h1, h2, h3, h4, h5, hargs⟩ := h c
  obtain ⟨e0, e1, e2⟩ := hm c
  refine ⟨h0.trans ?_, h1.trans ?_, h2.trans ?_, h3.trans ?_, h4.trans ?_, h5.trans ?_, hargs⟩
  · rw [e0, Cert.KernelIdeal.Run.rowsOf_eq]
  · rw [e0, e1, Cert.KernelIdeal.Run.rowsOf_eq]
  · rw [e0, e2, Cert.KernelIdeal.Run.rowsOf_eq]
  · rw [e0, distOf_eq]
  · rw [e0, e1, distOf_eq]
  · rw [e0, e2, distOf_eq]

/-- The three programs' frames, the idealization, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Run.frame m ρ, trivial, algebraic⟩

end Cert.Proof

end
